-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_depth_below_infinity [hPre_depth_below_infinity : Cert.Pre_depth_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_depth_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_depth_below_infinity [hPre_depth_below_infinity : Cert.Pre_depth_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_depth_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_depth_below_infinity [hKernelIdeal : Cert.KernelIdeal.Facts] [hPre_depth_below_infinity : Cert.Pre_depth_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_depth_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_depth_below_infinity [hReferenceIdeal : Cert.ReferenceIdeal.Facts] [hPre_depth_below_infinity : Cert.Pre_depth_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_depth_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_depth_below_infinity [hKernelIdeal : Cert.KernelIdeal.Facts] [hReferenceIdeal : Cert.ReferenceIdeal.Facts] [hPre_depth_below_infinity : Cert.Pre_depth_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_depth_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_depth_below_infinity : Cert.Pre_depth_below_infinity.Facts),
    quiescent_Kernel (hKernel := hKernel)
    ∧ quiescent_KernelIdeal (hKernelIdeal := hKernelIdeal)
    ∧ quiescent_KernelIdeal_pre_depth_below_infinity (hKernelIdeal := hKernelIdeal) (hPre_depth_below_infinity := hPre_depth_below_infinity)
    ∧ quiescent_ReferenceIdeal (hReferenceIdeal := hReferenceIdeal)
    ∧ quiescent_ReferenceIdeal_pre_depth_below_infinity (hReferenceIdeal := hReferenceIdeal) (hPre_depth_below_infinity := hPre_depth_below_infinity)
    ∧ preserves_Kernel_KernelIdeal
    ∧ algebraic_KernelIdeal_ReferenceIdeal_pre_depth_below_infinity (hKernelIdeal := hKernelIdeal) (hReferenceIdeal := hReferenceIdeal) (hPre_depth_below_infinity := hPre_depth_below_infinity)
-- ==== Pre_depth_below_infinity.lean ====
abbrev S4x1x512x512 : Shape := ⟨4, ![4, 1, 512, 512]⟩
abbrev S4x3x262144 : Shape := ⟨3, ![4, 3, 262144]⟩
abbrev S_ : Shape := ⟨0, ![]⟩

class Facts : Prop where
  bcast_S_S4x1x512x512 : S_.BroadcastsInDim S4x1x512x512 (![] : Fin 0 → Fin S4x1x512x512.rank)
  reducesTo_S4x1x512x512_S_d0_1_2_3 : S4x1x512x512.ReducesTo [0, 1, 2, 3] S_
  h_S_ : 0 < S_.numel

variable [Facts]

def fn {F : FTy → Type} [FloatOps F] (main_arg0 : FVec F S4x1x512x512 .f32) (main_arg1 : FVec F S4x3x262144 .f32) : IVec S_ 1 :=
  let main_cst : FVec F S_ .f32 := constant S_ .f32 0x7F800000#32
  let main_v0 : FVec F S4x1x512x512 .f32 := broadcastInDim S4x1x512x512 ![] bcast_S_S4x1x512x512 main_cst
  let main_v1 : IVec S4x1x512x512 1 := cmpf .olt main_arg0 main_v0
  let main_c : IVec S_ 1 := constantI S_ 1 1#1
  let main_v2 : IVec S_ 1 := (fun x v => Host.reduce IntOp.andi x v reducesTo_S4x1x512x512_S_d0_1_2_3 h_S_) main_v1 main_c
  main_v2
-- ==== Kernel.lean ====
abbrev S4x1x512x512 : Shape := ⟨4, ![4, 1, 512, 512]⟩
abbrev S4x3x262144 : Shape := ⟨3, ![4, 3, 262144]⟩
abbrev S3x4x262144 : Shape := ⟨3, ![3, 4, 262144]⟩
abbrev S4x4x512x512 : Shape := ⟨4, ![4, 4, 512, 512]⟩
abbrev S4x1x256x512 : Shape := ⟨4, ![4, 1, 256, 512]⟩
abbrev S3x4x131072 : Shape := ⟨3, ![3, 4, 131072]⟩
abbrev S4x4x256x512 : Shape := ⟨4, ![4, 4, 256, 512]⟩
abbrev S4x256x512 : Shape := ⟨3, ![4, 256, 512]⟩
abbrev S256x512 : Shape := ⟨2, ![256, 512]⟩
abbrev S1x256x512 : Shape := ⟨3, ![1, 256, 512]⟩
abbrev S1x1x131072 : Shape := ⟨3, ![1, 1, 131072]⟩
abbrev S131072 : Shape := ⟨1, ![131072]⟩
abbrev S1x1x256x512 : Shape := ⟨4, ![1, 1, 256, 512]⟩

abbrev nBuf : Space → Nat
  | .hbm => 4
  | .vmem => 6
  | .smem => 0
  | _ => 0

abbrev bufTy : (tb : Table) → Fin (tcTables nBuf tb) → BufTy
  | .hbm, ⟨0, _⟩ => ⟨S4x1x512x512, .f32⟩
  | .hbm, ⟨1, _⟩ => ⟨S4x3x262144, .f32⟩
  | .hbm, ⟨2, _⟩ => ⟨S3x4x262144, .f32⟩
  | .hbm, ⟨3, _⟩ => ⟨S4x4x512x512, .f32⟩
  | .local _ .vmem, ⟨0, _⟩ => ⟨S4x1x256x512, .f32⟩
  | .local _ .vmem, ⟨1, _⟩ => ⟨S4x1x256x512, .f32⟩
  | .local _ .vmem, ⟨2, _⟩ => ⟨S3x4x131072, .f32⟩
  | .local _ .vmem, ⟨3, _⟩ => ⟨S3x4x131072, .f32⟩
  | .local _ .vmem, ⟨4, _⟩ => ⟨S4x4x256x512, .f32⟩
  | .local _ .vmem, ⟨5, _⟩ => ⟨S4x4x256x512, .f32⟩
  | _, _ => ⟨S4x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S4x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x4x131072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x1x512x512 : Shape := ⟨4, ![4, 1, 512, 512]⟩
abbrev S4x3x262144 : Shape := ⟨3, ![4, 3, 262144]⟩
abbrev S_ : Shape := ⟨0, ![]⟩
abbrev S511 : Shape := ⟨1, ![511]⟩
abbrev S1 : Shape := ⟨1, ![1]⟩
abbrev S512 : Shape := ⟨1, ![512]⟩
abbrev S1x1x1x512 : Shape := ⟨4, ![1, 1, 1, 512]⟩
abbrev S1x1x512x1 : Shape := ⟨4, ![1, 1, 512, 1]⟩
abbrev S4x3x512x512 : Shape := ⟨4, ![4, 3, 512, 512]⟩
abbrev S4x1x262144 : Shape := ⟨3, ![4, 1, 262144]⟩
abbrev S4x4x262144 : Shape := ⟨3, ![4, 4, 262144]⟩
abbrev S4x262144 : Shape := ⟨2, ![4, 262144]⟩
abbrev S4 : Shape := ⟨1, ![4]⟩
abbrev S4x1 : Shape := ⟨2, ![4, 1]⟩
abbrev S1048576 : Shape := ⟨1, ![1048576]⟩
abbrev S1x1048576 : Shape := ⟨2, ![1, 1048576]⟩
abbrev S1048576x1 : Shape := ⟨2, ![1048576, 1]⟩
abbrev S1048576x1048576 : Shape := ⟨2, ![1048576, 1048576]⟩
abbrev S4x262144x4 : Shape := ⟨3, ![4, 262144, 4]⟩
abbrev S1048576x4 : Shape := ⟨2, ![1048576, 4]⟩
abbrev S4x512x512x4 : Shape := ⟨4, ![4, 512, 512, 4]⟩
abbrev S4x4x512x512 : Shape := ⟨4, ![4, 4, 512, 512]⟩

abbrev nBuf : Space → Nat
  | .hbm => 211
  | .vmem => 0
  | .smem => 0
  | _ => 0

abbrev hbmTy0_0 (i : Nat) : BufTy := match i % 128 with
  | 0 => ⟨S4x1x512x512, .f32⟩
  | 1 => ⟨S4x3x262144, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S511, .f32⟩
  | 10 => ⟨S_, .f32⟩
  | 11 => ⟨S511, .f32⟩
  | 12 => ⟨S511, .f32⟩
  | 13 => ⟨S1, .f32⟩
  | 14 => ⟨S_, .f32⟩
  | 15 => ⟨S511, .f32⟩
  | 16 => ⟨S511, .f32⟩
  | 17 => ⟨S511, .f32⟩
  | 18 => ⟨S511, .f32⟩
  | 19 => ⟨S1, .f32⟩
  | 20 => ⟨S511, .f32⟩
  | 21 => ⟨S511, .f32⟩
  | 22 => ⟨S511, .f32⟩
  | 23 => ⟨S1, .f32⟩
  | 24 => ⟨S512, .f32⟩
  | 25 => ⟨S1x1x1x512, .f32⟩
  | 26 => ⟨S_, .f32⟩
  | 27 => ⟨S1x1x1x512, .f32⟩
  | 28 => ⟨S1x1x1x512, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S511, .f32⟩
  | 37 => ⟨S_, .f32⟩
  | 38 => ⟨S511, .f32⟩
  | 39 => ⟨S511, .f32⟩
  | 40 => ⟨S1, .f32⟩
  | 41 => ⟨S_, .f32⟩
  | 42 => ⟨S511, .f32⟩
  | 43 => ⟨S511, .f32⟩
  | 44 => ⟨S511, .f32⟩
  | 45 => ⟨S511, .f32⟩
  | 46 => ⟨S1, .f32⟩
  | 47 => ⟨S511, .f32⟩
  | 48 => ⟨S511, .f32⟩
  | 49 => ⟨S511, .f32⟩
  | 50 => ⟨S1, .f32⟩
  | 51 => ⟨S512, .f32⟩
  | 52 => ⟨S1x1x512x1, .f32⟩
  | 53 => ⟨S_, .f32⟩
  | 54 => ⟨S1x1x512x1, .f32⟩
  | 55 => ⟨S1x1x512x1, .f32⟩
  | 56 => ⟨S4x1x512x512, .f32⟩
  | 57 => ⟨S4x1x512x512, .f32⟩
  | 58 => ⟨S4x1x512x512, .f32⟩
  | 59 => ⟨S4x1x512x512, .f32⟩
  | 60 => ⟨S4x3x512x512, .f32⟩
  | 61 => ⟨S4x3x262144, .f32⟩
  | 62 => ⟨S_, .f32⟩
  | 63 => ⟨S4x1x262144, .f32⟩
  | 64 => ⟨S4x4x262144, .f32⟩
  | 65 => ⟨S4x1x262144, .f32⟩
  | 66 => ⟨S4x262144, .f32⟩
  | 67 => ⟨S4x1x262144, .f32⟩
  | 68 => ⟨S4x262144, .f32⟩
  | 69 => ⟨S4x1x262144, .f32⟩
  | 70 => ⟨S4x262144, .f32⟩
  | 71 => ⟨S_, .f32⟩
  | 72 => ⟨S4x262144, .f32⟩
  | 73 => ⟨S4x262144, .f32⟩
  | 74 => ⟨S4x262144, .f32⟩
  | 75 => ⟨S4x262144, .f32⟩
  | 76 => ⟨S4x262144, .f32⟩
  | 77 => ⟨S4x262144, .f32⟩
  | 78 => ⟨S4x262144, .f32⟩
  | 79 => ⟨S4x262144, .f32⟩
  | 80 => ⟨S4x262144, .f32⟩
  | 81 => ⟨S4x262144, .f32⟩
  | 82 => ⟨S_, .f32⟩
  | 83 => ⟨S4x262144, .f32⟩
  | 84 => ⟨S4x262144, .f32⟩
  | 85 => ⟨S_, .f32⟩
  | 86 => ⟨S4x262144, .f32⟩
  | 87 => ⟨S4x262144, .f32⟩
  | 88 => ⟨S_, .f32⟩
  | 89 => ⟨S4x262144, .f32⟩
  | 90 => ⟨S4x262144, .f32⟩
  | 91 => ⟨S_, .f32⟩
  | 92 => ⟨S4x262144, .f32⟩
  | 93 => ⟨S4x262144, .f32⟩
  | 94 => ⟨S_, .f32⟩
  | 95 => ⟨S4x262144, .f32⟩
  | 96 => ⟨S4x262144, .f32⟩
  | 97 => ⟨S_, .f32⟩
  | 98 => ⟨S4x262144, .f32⟩
  | 99 => ⟨S4x262144, .f32⟩
  | 100 => ⟨S_, .f32⟩
  | 101 => ⟨S4x262144, .f32⟩
  | 102 => ⟨S4x262144, .f32⟩
  | 103 => ⟨S4x262144, .f32⟩
  | 104 => ⟨S4x262144, .i32⟩
  | 105 => ⟨S4x262144, .f32⟩
  | 106 => ⟨S4x262144, .i32⟩
  | 107 => ⟨S_, .f32⟩
  | 108 => ⟨S4x262144, .f32⟩
  | 109 => ⟨S4x262144, .i1⟩
  | 110 => ⟨S4x262144, .f32⟩
  | 111 => ⟨S_, .f32⟩
  | 112 => ⟨S4x262144, .f32⟩
  | 113 => ⟨S4x262144, .i1⟩
  | 114 => ⟨S4x262144, .i1⟩
  | 115 => ⟨S_, .i32⟩
  | 116 => ⟨S4x262144, .i32⟩
  | 117 => ⟨S4x262144, .i1⟩
  | 118 => ⟨S4x262144, .i1⟩
  | 119 => ⟨S_, .i32⟩
  | 120 => ⟨S4x262144, .i32⟩
  | 121 => ⟨S4x262144, .i1⟩
  | 122 => ⟨S4x262144, .i1⟩
  | 123 => ⟨S_, .i32⟩
  | 124 => ⟨S4x262144, .i32⟩
  | 125 => ⟨S4x262144, .i1⟩
  | 126 => ⟨S4x262144, .i1⟩
  | 127 => ⟨S_, .i32⟩
  | _ => ⟨S4x1x512x512, .f32⟩

abbrev hbmTy0_1 (i : Nat) : BufTy := match i % 128 with
  | 0 => ⟨S4x262144, .i32⟩
  | 1 => ⟨S4x262144, .i1⟩
  | 2 => ⟨S4x262144, .i1⟩
  | 3 => ⟨S4, .i32⟩
  | 4 => ⟨S4x1, .i32⟩
  | 5 => ⟨S4x262144, .i32⟩
  | 6 => ⟨S_, .i32⟩
  | 7 => ⟨S4x262144, .i32⟩
  | 8 => ⟨S4x262144, .i32⟩
  | 9 => ⟨S_, .i32⟩
  | 10 => ⟨S4x262144, .i32⟩
  | 11 => ⟨S4x262144, .i32⟩
  | 12 => ⟨S4x262144, .i32⟩
  | 13 => ⟨S4x262144, .i32⟩
  | 14 => ⟨S_, .i32⟩
  | 15 => ⟨S_, .i32⟩
  | 16 => ⟨S4x262144, .i32⟩
  | 17 => ⟨S4x262144, .i32⟩
  | 18 => ⟨S1048576, .i32⟩
  | 19 => ⟨S1048576, .f32⟩
  | 20 => ⟨S1048576, .i32⟩
  | 21 => ⟨S1x1048576, .i32⟩
  | 22 => ⟨S1048576x1, .i32⟩
  | 23 => ⟨S1048576x1048576, .i32⟩
  | 24 => ⟨S1048576x1048576, .i32⟩
  | 25 => ⟨S1048576x1048576, .i1⟩
  | 26 => ⟨S1x1048576, .f32⟩
  | 27 => ⟨S_, .f32⟩
  | 28 => ⟨S1048576x1048576, .f32⟩
  | 29 => ⟨S1048576x1048576, .f32⟩
  | 30 => ⟨S1048576x1048576, .f32⟩
  | 31 => ⟨S_, .f32⟩
  | 32 => ⟨S1048576, .f32⟩
  | 33 => ⟨S_, .f32⟩
  | 34 => ⟨S1048576, .f32⟩
  | 35 => ⟨S1048576, .f32⟩
  | 36 => ⟨S_, .i32⟩
  | 37 => ⟨S_, .i32⟩
  | 38 => ⟨S_, .i32⟩
  | 39 => ⟨S1048576, .i32⟩
  | 40 => ⟨S1048576, .i32⟩
  | 41 => ⟨S_, .i32⟩
  | 42 => ⟨S1048576, .i32⟩
  | 43 => ⟨S1048576, .i32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i32⟩
  | 50 => ⟨S1048576, .i32⟩
  | 51 => ⟨S1048576x1, .i32⟩
  | 52 => ⟨S1048576, .f32⟩
  | 53 => ⟨S_, .f32⟩
  | 54 => ⟨S1048576, .f32⟩
  | 55 => ⟨S1048576, .f32⟩
  | 56 => ⟨S1048576, .i1⟩
  | 57 => ⟨S1048576, .i1⟩
  | 58 => ⟨S1048576, .i1⟩
  | 59 => ⟨S_, .f32⟩
  | 60 => ⟨S_, .f32⟩
  | 61 => ⟨S1048576, .f32⟩
  | 62 => ⟨S1048576, .f32⟩
  | 63 => ⟨S1048576, .f32⟩
  | 64 => ⟨S4x1x262144, .f32⟩
  | 65 => ⟨S4x1x262144, .f32⟩
  | 66 => ⟨S4x4x262144, .f32⟩
  | 67 => ⟨S4x4x262144, .f32⟩
  | 68 => ⟨S4x262144x4, .f32⟩
  | 69 => ⟨S1048576x4, .f32⟩
  | 70 => ⟨S_, .f32⟩
  | 71 => ⟨S1048576x4, .f32⟩
  | 72 => ⟨S_, .i32⟩
  | 73 => ⟨S1048576, .i32⟩
  | 74 => ⟨S1048576, .i1⟩
  | 75 => ⟨S_, .i32⟩
  | 76 => ⟨S1048576, .i32⟩
  | 77 => ⟨S1048576, .i32⟩
  | 78 => ⟨S1048576, .i32⟩
  | 79 => ⟨S1048576x1, .i32⟩
  | 80 => ⟨S1048576x4, .f32⟩
  | 81 => ⟨S4x512x512x4, .f32⟩
  | 82 => ⟨S4x4x512x512, .f32⟩
  | _ => ⟨S4x1x512x512, .f32⟩

abbrev hbmTy (i : Nat) : BufTy := match i / 128 with
  | 0 => hbmTy0_0 i
  | 1 => hbmTy0_1 i
  | _ => ⟨S4x1x512x512, .f32⟩

abbrev bufTy : (tb : Table) → Fin (tcTables nBuf tb) → BufTy
  | .hbm, ⟨i, _⟩ => hbmTy i
  | _, _ => ⟨S4x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_cst_1 : Ref sig .tc := ⟨.hbm, 26, rfl⟩
abbrev main_v2 : Ref sig .tc := ⟨.hbm, 27, rfl⟩
abbrev main_v3 : Ref sig .tc := ⟨.hbm, 28, rfl⟩
abbrev main_cst_2 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_cst : Ref sig .tc := ⟨.hbm, 34, rfl⟩
abbrev main_call1_v3 : Ref sig .tc := ⟨.hbm, 35, rfl⟩
abbrev main_call1_v4 : Ref sig .tc := ⟨.hbm, 36, rfl⟩
abbrev main_call1_cst_0 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_cst_1 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_v15 : Ref sig .tc := ⟨.hbm, 49, rfl⟩
abbrev main_call1_v16 : Ref sig .tc := ⟨.hbm, 50, rfl⟩
abbrev main_v4 : Ref sig .tc := ⟨.hbm, 51, rfl⟩
abbrev main_v5 : Ref sig .tc := ⟨.hbm, 52, rfl⟩
abbrev main_cst_4 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_cst_5 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_cst_6 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_cst_7 : Ref sig .tc := ⟨.hbm, 82, rfl⟩
abbrev main_v32 : Ref sig .tc := ⟨.hbm, 83, rfl⟩
abbrev main_v33 : Ref sig .tc := ⟨.hbm, 84, rfl⟩
abbrev main_cst_8 : Ref sig .tc := ⟨.hbm, 85, rfl⟩
abbrev main_v34 : Ref sig .tc := ⟨.hbm, 86, rfl⟩
abbrev main_v35 : Ref sig .tc := ⟨.hbm, 87, rfl⟩
abbrev main_cst_9 : Ref sig .tc := ⟨.hbm, 88, rfl⟩
abbrev main_v36 : Ref sig .tc := ⟨.hbm, 89, rfl⟩
abbrev main_v37 : Ref sig .tc := ⟨.hbm, 90, rfl⟩
abbrev main_cst_10 : Ref sig .tc := ⟨.hbm, 91, rfl⟩
abbrev main_v38 : Ref sig .tc := ⟨.hbm, 92, rfl⟩
abbrev main_v39 : Ref sig .tc := ⟨.hbm, 93, rfl⟩
abbrev main_cst_11 : Ref sig .tc := ⟨.hbm, 94, rfl⟩
abbrev main_v40 : Ref sig .tc := ⟨.hbm, 95, rfl⟩
abbrev main_v41 : Ref sig .tc := ⟨.hbm, 96, rfl⟩
abbrev main_cst_12 : Ref sig .tc := ⟨.hbm, 97, rfl⟩
abbrev main_v42 : Ref sig .tc := ⟨.hbm, 98, rfl⟩
abbrev main_v43 : Ref sig .tc := ⟨.hbm, 99, rfl⟩
abbrev main_cst_13 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_cst_14 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_cst_15 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_c : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_c_16 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_c_17 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_c_18 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_c_19 : Ref sig .tc := ⟨.hbm, 134, rfl⟩
abbrev main_v71 : Ref sig .tc := ⟨.hbm, 135, rfl⟩
abbrev main_v72 : Ref sig .tc := ⟨.hbm, 136, rfl⟩
abbrev main_c_20 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_c_21 : Ref sig .tc := ⟨.hbm, 142, rfl⟩
abbrev main_call4_v0 : Ref sig .tc := ⟨.hbm, 143, rfl⟩
abbrev main_call4_v1 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_cst_22 : Ref sig .tc := ⟨.hbm, 155, rfl⟩
abbrev main_call5_v0 : Ref sig .tc := ⟨.hbm, 156, rfl⟩
abbrev main_call5_v1 : Ref sig .tc := ⟨.hbm, 157, rfl⟩
abbrev main_v87 : Ref sig .tc := ⟨.hbm, 158, rfl⟩
abbrev main_cst_23 : Ref sig .tc := ⟨.hbm, 159, rfl⟩
abbrev main_v88 : Ref sig .tc := ⟨.hbm, 160, rfl⟩
abbrev main_cst_24 : Ref sig .tc := ⟨.hbm, 161, rfl⟩
abbrev main_v89 : Ref sig .tc := ⟨.hbm, 162, rfl⟩
abbrev main_v90 : Ref sig .tc := ⟨.hbm, 163, rfl⟩
abbrev main_c_25 : Ref sig .tc := ⟨.hbm, 164, rfl⟩
abbrev main_c_26 : Ref sig .tc := ⟨.hbm, 165, rfl⟩
abbrev main_call6_v0 : Ref sig .tc := ⟨.hbm, 166, rfl⟩
abbrev main_call6_v1 : Ref sig .tc := ⟨.hbm, 167, rfl⟩
abbrev main_call6_v2 : Ref sig .tc := ⟨.hbm, 168, rfl⟩
abbrev main_call6_v3 : Ref sig .tc := ⟨.hbm, 169, rfl⟩
abbrev main_call6_v4 : Ref sig .tc := ⟨.hbm, 170, rfl⟩
abbrev main_v91 : Ref sig .tc := ⟨.hbm, 171, rfl⟩
abbrev main_c_27 : Ref sig .tc := ⟨.hbm, 172, rfl⟩
abbrev main_v92 : Ref sig .tc := ⟨.hbm, 173, rfl⟩
abbrev main_v93 : Ref sig .tc := ⟨.hbm, 174, rfl⟩
abbrev main_c_28 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_cst_29 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_30 : Ref sig .tc := ⟨.hbm, 187, rfl⟩
abbrev main_cst_31 : Ref sig .tc := ⟨.hbm, 188, rfl⟩
abbrev main_call7_v0 : Ref sig .tc := ⟨.hbm, 189, rfl⟩
abbrev main_call7_v1 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_cst_32 : Ref sig .tc := ⟨.hbm, 198, rfl⟩
abbrev main_v111 : Ref sig .tc := ⟨.hbm, 199, rfl⟩
abbrev main_c_33 : Ref sig .tc := ⟨.hbm, 200, rfl⟩
abbrev main_v112 : Ref sig .tc := ⟨.hbm, 201, rfl⟩
abbrev main_v113 : Ref sig .tc := ⟨.hbm, 202, rfl⟩
abbrev main_c_34 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩

abbrev nD : Nat := 1
abbrev τ : Topo := Topo.v7x

variable {F : FTy → Type} [FloatOps F]
-- ==== Proof.Consts.lean ====
/- The float literals of the two programs as real numbers, and the rounding of a whole number. -/
module

public import Idealize.ShloMosaic.PureOps.Ideal
public import Idealize.ShloMosaic.Lib.Pointwise

@[expose] public section

noncomputable section

namespace Cert.Consts

open Idealize.ShloMosaic

/-- A normal binary32 word of sign `s`, exponent field `e` and fraction field `f` denotes
    `± (2^23 + f) · 2^(e - 150)`. -/
theorem word_real (b : BitVec 32) (s : Bool) (e f : ℕ) (r : ℝ) (hs : (b.extractLsb' 31 1 == 1#1) = s)
    (he : (b.extractLsb' 23 8).toNat = e) (hf : (b.extractLsb' 0 23).toNat = f) (h0 : e ≠ 255) (h1 : e ≠ 0)
    (hr : (if s = true then (-1 : ℝ) else 1) * ((2 ^ 23 + f : ℕ) : ℝ) * (2 : ℝ) ^ ((e : ℤ) - 127 - 23) = r) :
    Ideal.ofBits .f32 b = (r : EReal) := by
  subst hr
  change Ideal.ieee 8 23 b = _
  unfold Ideal.ieee
  simp only [Nat.reduceAdd, he, hf, hs]
  rw [if_neg (by simpa using h0), if_neg h1]
  norm_num

theorem w256 : Ideal.ofBits .f32 0x43800000#32 = ((256 : ℝ) : EReal) :=
  word_real _ false 135 0 _ (by decide) (by decide) (by decide) (by decide) (by decide) (by norm_num)
theorem w512 : Ideal.ofBits .f32 0x44000000#32 = ((512 : ℝ) : EReal) :=
  word_real _ false 136 0 _ (by decide) (by decide) (by decide) (by decide) (by decide) (by norm_num)
theorem w511 : Ideal.ofBits .f32 0x43FF8000#32 = ((511 : ℝ) : EReal) :=
  word_real _ false 135 8355840 _ (by decide) (by decide) (by decide) (by decide) (by decide) (by norm_num)
theorem w255h : Ideal.ofBits .f32 0x437F8000#32 = ((511 / 2 : ℝ) : EReal) :=
  word_real _ false 134 8355840 _ (by decide) (by decide) (by decide) (by decide) (by decide) (by norm_num)
theorem wm255h : Ideal.ofBits .f32 0xC37F8000#32 = ((-(511 / 2) : ℝ) : EReal) :=
  word_real _ true 134 8355840 _ (by decide) (by decide) (by decide) (by decide) (by decide) (by norm_num)
theorem wInv512 : Ideal.ofBits .f32 0x3B000000#32 = ((1 / 512 : ℝ) : EReal) :=
  word_real _ false 118 0 _ (by decide) (by decide) (by decide) (by decide) (by decide) (by norm_num)
theorem wHalf : Ideal.ofBits .f32 0x3F000000#32 = ((1 / 2 : ℝ) : EReal) :=
  word_real _ false 126 0 _ (by decide) (by decide) (by decide) (by decide) (by decide) (by norm_num)
theorem wFar : Ideal.ofBits .f32 0x49742400#32 = ((1000000 : ℝ) : EReal) :=
  word_real _ false 146 7611392 _ (by decide) (by decide) (by decide) (by decide) (by decide) (by norm_num)
theorem wScale : Ideal.ofBits .f32 0x46A00000#32 = ((20480 : ℝ) : EReal) :=
  word_real _ false 141 2097152 _ (by decide) (by decide) (by decide) (by decide) (by decide) (by norm_num)
/-- The literal `1e-7`, as the rational that its word is. -/
theorem wTiny : Ideal.ofBits .f32 0x33D6BF95#32 = ((14073749 / 140737488355328 : ℝ) : EReal) :=
  word_real _ false 103 5685141 _ (by decide) (by decide) (by decide) (by decide) (by decide) (by norm_num)
/-- The literal `0.001`, the least depth that is drawn, as the rational that its word is. -/
theorem wLeast : Ideal.ofBits .f32 0x3A83126F#32 = ((8589935 / 8589934592 : ℝ) : EReal) :=
  word_real _ false 117 201327 _ (by decide) (by decide) (by decide) (by decide) (by decide) (by norm_num)

theorem wInf : Ideal.ofBits .f32 0x7F800000#32 = ⊤ := by
  change Ideal.ieee 8 23 (0x7F800000#32 : BitVec 32) = _
  unfold Ideal.ieee
  simp

/-- Rounding a whole number, ties to even, leaves it as it is. -/
theorem round_nat (n : ℕ) : Ideal.liftRound Ideal.roundHalfEven (((n : ℝ) : EReal)) = ((n : ℝ) : EReal) := by
  show (((Ideal.roundHalfEven (n : ℝ) : ℤ) : ℝ) : EReal) = _
  unfold Ideal.roundHalfEven
  simp

/-- A word made from a number below `2^31` is that number, signed. -/
theorem toInt_small (n : ℕ) (h : n < 2 ^ 31) : (BitVec.ofNat 32 n).toInt = (n : ℤ) := by
  rw [BitVec.toInt_eq_toNat_cond, BitVec.toNat_ofNat]
  have : n % 2 ^ 32 = n := Nat.mod_eq_of_lt (by omega)
  rw [this, if_pos (by omega)]

/-- A number below `2^31` read back as a signed word is itself. -/
theorem sitofp_ofNat (n : ℕ) (h : n < 2 ^ 31) :
    FloatOps.sitofp (F := Ideal) .f32 (BitVec.ofNat 32 n) = ((n : ℝ) : EReal) := by
  change (((BitVec.ofNat 32 n).toInt : ℝ) : EReal) = _
  rw [toInt_small n h]
  simp

/-- The least depth that is drawn. -/
def least : EReal := Ideal.ofBits .f32 0x3A83126F#32

/-- What a point of depth `z` contributes to its pixel's weight: 1 if it is drawn, 0 if not. -/
def wt (z : EReal) : EReal := if least ≤ z then 1 else 0

/-- The whole result as a function of the depths `d` and the data `x`, element by element: channels 0 to 2 are the
    data where the depth is drawn and 0 elsewhere, channel 3 is the weight. -/
def image (d : (⟨4, ![4, 1, 512, 512]⟩ : Shape).Idx → EReal) (x : (⟨3, ![4, 3, 262144]⟩ : Shape).Idx → EReal)
    (b ch : Fin 4) (r c : Fin 512) : EReal :=
  if h : ch.val < 3 then x (ix3 b ⟨ch.val, h⟩ ⟨r.val * 512 + c.val, by omega⟩) * wt (d (ix4 b 0 r c)) else wt (d (ix4 b 0 r c))

/-- `image` as an array: what the result holds at an index. -/
def whole (d : (⟨4, ![4, 1, 512, 512]⟩ : Shape).Idx → EReal) (x : (⟨3, ![4, 3, 262144]⟩ : Shape).Idx → EReal)
    (y : (⟨4, ![4, 4, 512, 512]⟩ : Shape).Idx) : EReal := image d x (y 0) (y 1) (y 2) (y 3)

/-- `whole` at an index given by its four coordinates. -/
theorem whole_at (d : (⟨4, ![4, 1, 512, 512]⟩ : Shape).Idx → EReal) (x : (⟨3, ![4, 3, 262144]⟩ : Shape).Idx → EReal)
    (y : (⟨4, ![4, 4, 512, 512]⟩ : Shape).Idx) (b ch : Fin 4) (r c : Fin 512) (hb : (y 0).val = b.val) (hch : (y 1).val = ch.val)
    (hr : (y 2).val = r.val) (hc : (y 3).val = c.val) : whole d x y = image d x b ch r c := by
  obtain rfl : y 0 = b := Fin.ext hb
  obtain rfl : y 1 = ch := Fin.ext hch
  obtain rfl : y 2 = r := Fin.ext hr
  obtain rfl : y 3 = c := Fin.ext hc
  rfl

end Cert.Consts

end
-- ==== Proof.Block.lean ====
/- What one grid point of the kernel computes. -/
module

public import proofs.«01_k».proof.Proof.Gen.KernelIdeal.Value
public import proofs.«01_k».proof.Proof.Consts
public import Idealize.ShloMosaic.Lib.Pipeline.ValueKit

@[expose] public section

set_option maxRecDepth 16384

noncomputable section

namespace Cert.Block

open Cert.KernelIdeal Cert.KernelIdeal.Gen Cert.Consts Idealize.ShloMosaic

/-- The pixel coordinate `p`, taken to the camera plane and back, is `p` itself. -/
theorem back (p : ℝ) :
    ((p : EReal) - ((511 / 2 : ℝ) : EReal)) * ((1 / 512 : ℝ) : EReal) * ((512 : ℝ) : EReal) + ((511 / 2 : ℝ) : EReal)
      = (p : EReal) := by
  rw [← EReal.coe_sub, ← EReal.coe_mul, ← EReal.coe_mul, ← EReal.coe_add]
  congr 1
  ring

/-- The depth test: if `z` is at least the bound then so is the magnitude of `-z`. -/
theorem depth_test (z : EReal) :
    IntOp.andi (BitVec.ofBool (decide (Ideal.ofBits .f32 0x3A83126F#32 ≤ z)))
        (BitVec.ofBool (decide (Ideal.ofBits .f32 0x3A83126F#32 ≤ FloatOps.absf (F := Ideal) (φ := .f32) (0 - z))))
      = BitVec.ofBool (decide (Ideal.ofBits .f32 0x3A83126F#32 ≤ z)) := by
  by_cases h : Ideal.ofBits .f32 0x3A83126F#32 ≤ z
  · have this : Ideal.ofBits .f32 0x3A83126F#32 ≤ FloatOps.absf (F := Ideal) (φ := .f32) (0 - z) := by
      change _ ≤ max (0 - z) (-(0 - z))
      rw [zero_sub, neg_neg]
      exact le_max_of_le_right h
    rw [decide_eq_true h, decide_eq_true this]
    rfl
  · simp [h, IntOp.andi]

set_option maxHeartbeats 1000000 in
/-- The weight that the body computes at batch `b`, row `r` and column `c` of its block. -/
theorem weight (i : grid0.Coords) (x0 : Vec Ideal S4x1x256x512 .f32) (x1 : Vec Ideal S3x4x131072 .f32)
    (b : Fin 4) (r : Fin 256) (c : Fin 512) :
    k0_pay47 (F := Ideal) i x0 x1 (ix3 b r c) = wt (x0 (ix4 b 0 r c)) := by
  have hi : (i 0).val < 2 := (i 0).isLt
  have hrow : FloatOps.sitofp (F := Ideal) FTy.f32 (BitVec.ofNat 32 r.val)
      + Ideal.ofBits FTy.f32 0x43800000#32 * (((BitVec.ofNat 32 (i 0).val).toInt : ℝ) : EReal)
      = (((r.val + 256 * (i 0).val : ℕ) : ℝ) : EReal) := by
    rw [sitofp_ofNat _ (by omega), toInt_small _ (by omega), w256, ← EReal.coe_mul, ← EReal.coe_add]
    push_cast
    rfl
  have hcol : FloatOps.sitofp (F := Ideal) FTy.f32 (BitVec.ofNat 32 c.val) = ((c.val : ℝ) : EReal) :=
    sitofp_ofNat _ (by omega)
  have lo (n : ℕ) : (0 : EReal) ≤ ((n : ℝ) : EReal) := by exact_mod_cast Nat.zero_le n
  have hi' (n : ℕ) (h : n < 512) : ((n : ℝ) : EReal) < ((512 : ℝ) : EReal) := by exact_mod_cast h
  unfold_payloads
  pointwise
  rw [hrow, hcol, w255h, wInv512, w512, back, back, round_nat, round_nat]
  rw [depth_test]
  simp only [lo, hi' c.val c.isLt, hi' (r.val + 256 * (i 0).val) (by omega), zero_mul, add_zero, decide_true]
  by_cases h : Ideal.ofBits .f32 0x3A83126F#32 ≤ x0 (ix4 b 0 r c) <;> simp [h, wt, least, IntOp.andi, Scalar.select]

end Cert.Block

end
-- ==== Proof.BlockOut.lean ====
/- The block of the result that one grid point writes, element by element. -/
module

public import proofs.«01_k».proof.Proof.Block

@[expose] public section

set_option maxRecDepth 16384

noncomputable section

namespace Cert.Block

open Cert.KernelIdeal Cert.KernelIdeal.Gen Cert.Consts Idealize.ShloMosaic

variable (i : grid0.Coords) (x0 : Vec Ideal S4x1x256x512 .f32) (x1 : Vec Ideal S3x4x131072 .f32) (r : Fin 256) (c : Fin 512)

/-- The plane of weights of batch 0. -/
theorem plane0 (b : Fin 4) (hb : b.val = 0) : k0_pay48 (F := Ideal) i x0 x1 (ix2 r c) = wt (x0 (ix4 b 0 r c)) := by
  obtain rfl : b = 0 := Fin.ext hb
  rw [← weight i x0 x1]
  change (shapeCast S256x512 (extractStridedSlice S1x256x512 ![0, 0, 0] (k0_pay47 i x0 x1) slices_S4x256x512_o0_0_0_S1x256x512)
    shapeCasts_S1x256x512_S256x512 : FVec Ideal S256x512 .f32) (ix2 r c) = _
  pointwise

/-- The plane of weights of batch 1. -/
theorem plane1 (b : Fin 4) (hb : b.val = 1) : k0_pay22 (F := Ideal) (k0_pay47 i x0 x1) (ix2 r c) = wt (x0 (ix4 b 0 r c)) := by
  obtain rfl : b = 1 := Fin.ext hb
  rw [← weight i x0 x1]
  unfold k0_pay22
  pointwise

/-- The plane of weights of batch 2. -/
theorem plane2 (b : Fin 4) (hb : b.val = 2) : k0_pay27 (F := Ideal) (k0_pay47 i x0 x1) (ix2 r c) = wt (x0 (ix4 b 0 r c)) := by
  obtain rfl : b = 2 := Fin.ext hb
  rw [← weight i x0 x1]
  unfold k0_pay27
  pointwise

/-- The plane of weights of batch 3. -/
theorem plane3 (b : Fin 4) (hb : b.val = 3) : k0_pay33 (F := Ideal) (k0_pay47 i x0 x1) (ix2 r c) = wt (x0 (ix4 b 0 r c)) := by
  obtain rfl : b = 3 := Fin.ext hb
  rw [← weight i x0 x1]
  unfold k0_pay33
  pointwise

/-- The block of the result at batch `b`, channel `ch`, row `r` and column `c`, from the block of depths `x0` and the
    block of data `x1`: the data times the weight in channels 0 to 2, the weight in channel 3. -/
def blockImage (b ch : Fin 4) (r : Fin 256) (c : Fin 512) : EReal :=
  if h : ch.val < 3 then x1 (ix3 ⟨ch.val, h⟩ b ⟨r.val * 512 + c.val, by omega⟩) * wt (x0 (ix4 b 0 r c))
  else wt (x0 (ix4 b 0 r c))

/-- A plane of weights stored as channel 3 of its batch is `blockImage` there. -/
theorem weight_piece (P : FVec Ideal S256x512 .f32) (b ch : Fin 4) (z0 z1 : Fin 1)
    (hP : P (ix2 r c) = wt (x0 (ix4 b 0 r c))) (hch : ch.val = 3) :
    (shapeCast S1x1x256x512 P shapeCasts_S256x512_S1x1x256x512 : FVec Ideal S1x1x256x512 .f32) (ix4 z0 z1 r c)
      = blockImage x0 x1 b ch r c := by
  unfold blockImage
  rw [dif_neg (by omega), ← hP]
  pointwise

/-- A row of data times the plane of weights of its batch, stored as a channel below 3, is `blockImage` there. -/
theorem data_piece (L : Vec Ideal S1x1x131072 .f32) (P : FVec Ideal S256x512 .f32) (b ch : Fin 4) (z0 z1 : Fin 1)
    (hP : P (ix2 r c) = wt (x0 (ix4 b 0 r c))) (hch : ch.val < 3)
    (hL : ∀ k : Fin 131072, L (ix3 0 0 k) = x1 (ix3 ⟨ch.val, hch⟩ b k)) :
    (shapeCast S1x1x256x512 (mulf (shapeCast S256x512 (shapeCast S131072 L shapeCasts_S1x1x131072_S131072 : FVec Ideal S131072 .f32)
      shapeCasts_S131072_S256x512) P) shapeCasts_S256x512_S1x1x256x512 : FVec Ideal S1x1x256x512 .f32) (ix4 z0 z1 r c)
      = blockImage x0 x1 b ch r c := by
  unfold blockImage
  rw [dif_pos hch, ← hP, ← hL]
  pointwise

/-- A load of row `(ch, b)` of the data block. -/
theorem load_row (ch b : Nat) (inb) (ch' : Fin 3) (b' : Fin 4) (hc : ch' = ch) (hb : b' = b) (k : Fin 131072) :
    View.ld x1 (Rect.unit (s := S3x4x131072) ![ch, b, 0] S1x1x131072.size inb) (ix3 0 0 k) = x1 (ix3 ch' b' k) := by
  subst hc hb
  refine View.ld_unit_apply_of x1 _ _ inb _ _ fun a => ?_
  fin_cases a
  · exact (Nat.add_zero _).symm
  · exact (Nat.add_zero _).symm
  · exact (Nat.zero_add _).symm

/-- What the grid point's block of the result holds at batch `b`, channel `ch`, row `r` and column `c`. -/
theorem out_at (b ch : Fin 4) : out0_2 (F := Ideal) i x0 x1 (ix4 b ch r c) = blockImage x0 x1 b ch r c := by
  canon_tiles z h
  all_goals idx_vars z
  all_goals obtain rfl : r = z2 := Fin.ext h2
  all_goals obtain rfl : c = z3 := Fin.ext h3
  case piece0 => exact weight_piece x0 x1 r c _ b ch z0 z1 (plane3 i x0 x1 r c b (by omega)) (by omega)
  case piece1 | piece2 | piece3 =>
    exact data_piece x0 x1 r c _ _ b ch z0 z1 (plane3 i x0 x1 r c b (by omega)) (by omega)
      fun k => load_row x1 _ _ _ _ _ (by simp only; omega) (by omega) k
  case piece4 => exact weight_piece x0 x1 r c _ b ch z0 z1 (plane2 i x0 x1 r c b (by omega)) (by omega)
  case piece5 | piece6 | piece7 =>
    exact data_piece x0 x1 r c _ _ b ch z0 z1 (plane2 i x0 x1 r c b (by omega)) (by omega)
      fun k => load_row x1 _ _ _ _ _ (by simp only; omega) (by omega) k
  case piece8 => exact weight_piece x0 x1 r c _ b ch z0 z1 (plane1 i x0 x1 r c b (by omega)) (by omega)
  case piece9 | piece10 | piece11 =>
    exact data_piece x0 x1 r c _ _ b ch z0 z1 (plane1 i x0 x1 r c b (by omega)) (by omega)
      fun k => load_row x1 _ _ _ _ _ (by simp only; omega) (by omega) k
  case piece12 => exact weight_piece x0 x1 r c _ b ch z0 z1 (plane0 i x0 x1 r c b (by omega)) (by omega)
  case piece13 | piece14 | piece15 =>
    exact data_piece x0 x1 r c _ _ b ch z0 z1 (plane0 i x0 x1 r c b (by omega)) (by omega)
      fun k => load_row x1 _ _ _ _ _ (by simp only; omega) (by omega) k

end Cert.Block

end
-- ==== Proof.Array.lean ====
/- The kernel's result array after the run, element by element. -/
module

public import proofs.«01_k».proof.Proof.BlockOut

@[expose] public section

set_option maxRecDepth 16384

noncomputable section

namespace Cert.Array

open Cert.KernelIdeal Cert.KernelIdeal.Gen Cert.Consts Cert.Block Idealize.ShloMosaic Idealize.ShloMosaic.TcCoe Idealize.SL.Sem

variable (m : (ℓ : Loc nD τ sig) → Buf (Elt Ideal) ℓ)

/-- Which block each window has at grid point `t`: the depths' and the result's move along the rows, the data's along the
    points. -/
theorem idx : ∀ t : Fin cfg0.N, win0_0.index t = ![0, 0, t.val, 0] ∧ win0_1.index t = ![0, 0, t.val]
    ∧ win0_2.index t = ![0, 0, t.val, 0] :=
  (by decide +kernel : ∀ t : Fin grid0.N, win0_0.index t = ![0, 0, t.val, 0] ∧ win0_1.index t = ![0, 0, t.val]
    ∧ win0_2.index t = ![0, 0, t.val, 0])

/-- The second operand of the kernel is the data with its first two axes exchanged. -/
theorem data_operand (c : Dev nD) (k : Fin 3) (b : Fin 4) (q : Fin 262144) :
    V m c main_v0 (ix3 k b q) = m ((c : Thread nD τ).loc main_arg1) (ix3 b k q) := by
  unfold_abbrev_sides
  after_results
  pointwise

/-- The block of depths at grid point `t`: rows `256 t` to `256 t + 255`. -/
theorem depths (c : Dev nD) (t : Fin cfg0.N) (b : Fin 4) (r : Fin 256) (q : Fin 512) (h : 256 * t.val + r.val < 512) :
    iblk m c 0 t (ix4 b 0 r q) = m ((c : Thread nD τ).loc main_arg0) (ix4 b 0 ⟨256 * t.val + r.val, h⟩ q) := by
  blk_ext [iblk, V, idx t]

/-- The block of data at grid point `t`: points `131072 t` to `131072 t + 131071`. -/
theorem data (c : Dev nD) (t : Fin cfg0.N) (k : Fin 3) (b : Fin 4) (q : Fin 131072) (h : 131072 * t.val + q.val < 262144) :
    iblk m c 1 t (ix3 k b q) = m ((c : Thread nD τ).loc main_arg1) (ix3 b k ⟨131072 * t.val + q.val, h⟩) := by
  rw [← data_operand m c]
  have : iblk m c 1 t (ix3 k b q) = V m c main_v0 (((cfg0.win 1).blk t).view.emb (ix3 k b q)) := rfl
  rw [this]
  blk_ext [idx t]

/-- After the run the kernel's result array is `whole` of the two arguments. -/
theorem final (c : Dev nD) :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  have ht : t.val < 2 := lt_of_lt_of_eq t.isLt (by decide +kernel : grid0.N = 2)
  idx_vars y
  have e0 : ((((cfg0.win 2).blk t).view.emb (ix4 y0 y1 y2 y3)) 0).val = y0.val := by blk_simp [idx t] <;> omega
  have e1 : ((((cfg0.win 2).blk t).view.emb (ix4 y0 y1 y2 y3)) 1).val = y1.val := by blk_simp [idx t] <;> omega
  have e2 : ((((cfg0.win 2).blk t).view.emb (ix4 y0 y1 y2 y3)) 2).val = 256 * t.val + y2.val := by blk_simp [idx t] <;> omega
  have e3 : ((((cfg0.win 2).blk t).view.emb (ix4 y0 y1 y2 y3)) 3).val = y3.val := by blk_simp [idx t] <;> omega
  refine Eq.trans ?_ (whole_at _ _ _ y0 y1 ⟨256 * t.val + y2.val, by omega⟩ y3 e0 e1 e2 e3).symm
  blk_simp
  rw [after0_2, out_at]
  unfold blockImage image
  rw [depths m c t _ _ _ (by omega)]
  by_cases h : y1.val < 3
  · rw [dif_pos h, dif_pos h, data m c t _ _ _ (by simp only; omega)]
    congr 2
    congr 1
    refine Fin.ext ?_
    simp only
    omega
  · rw [dif_neg h, dif_neg h]

end Cert.Array

end
-- ==== Proof.RefStages.lean ====
/- The reference, stage by stage, as functions of the depths and the data: the arrays that its text names. -/
module

public import proofs.«01_k».proof.Proof.Gen.ReferenceIdeal.Run
public import proofs.«01_k».proof.Proof.Consts

@[expose] public section

set_option maxRecDepth 16384

noncomputable section

namespace Cert.RefStages

open Cert.ReferenceIdeal Cert.ReferenceIdeal.Gen Cert.ReferenceIdeal.Value Cert.Consts Idealize.ShloMosaic Idealize.ShloMosaic.TcCoe Idealize.ShloMosaic.StableHlo

/-- The fractions `i / 511` for `i` from 0 to 510. -/
def fraction : FVec Ideal S511 .f32 :=
  Host.divf (sitofp .f32 (iotaInDim S511 32 0)) (broadcastInDim S511 ![] bcast_S_S511 (constant S_ .f32 0x43FF8000#32))

/-- The evenly spaced grid of 512 numbers from -255.5 to 255.5. -/
def spaced : FVec Ideal S512 .f32 :=
  concatenate S512 0 [⟨S511, addf (mulf (broadcastInDim S511 ![0] bcast_S1_S511_0 (shapeCast S1 (constant S_ .f32 0xC37F8000#32) shapeCasts_S_S1))
      (subf (broadcastInDim S511 ![] bcast_S_S511 (constant S_ .f32 0x3F800000#32)) fraction))
      (mulf (broadcastInDim S511 ![0] bcast_S1_S511_0 (shapeCast S1 (constant S_ .f32 0x437F8000#32) shapeCasts_S_S1)) fraction)⟩,
    ⟨S1, broadcastInDim S1 ![] bcast_S_S1 (constant S_ .f32 0x437F8000#32)⟩] concatenates_S511_S1_S512_d0

/-- The points' three coordinates: depth times the column's slope, depth times the row's slope, depth. -/
def points (d : FVec Ideal S4x1x512x512 .f32) : FVec Ideal S4x3x262144 .f32 :=
  shapeCast S4x3x262144 (concatenate S4x3x512x512 1 [
    ⟨S4x1x512x512, mulf d (broadcastInDim S4x1x512x512 ![0, 1, 2, 3] bcast_S1x1x1x512_S4x1x512x512_0_1_2_3
      (mulf (shapeCast S1x1x1x512 spaced shapeCasts_S512_S1x1x1x512) (broadcastInDim S1x1x1x512 ![] bcast_S_S1x1x1x512 (constant S_ .f32 0x3B000000#32))))⟩,
    ⟨S4x1x512x512, mulf d (broadcastInDim S4x1x512x512 ![0, 1, 2, 3] bcast_S1x1x512x1_S4x1x512x512_0_1_2_3
      (mulf (shapeCast S1x1x512x1 spaced shapeCasts_S512_S1x1x512x1) (broadcastInDim S1x1x512x1 ![] bcast_S_S1x1x512x1 (constant S_ .f32 0x3B000000#32))))⟩,
    ⟨S4x1x512x512, d⟩] concatenates_S4x1x512x512_S4x1x512x512_S4x1x512x512_S4x3x512x512_d1) shapeCasts_S4x3x512x512_S4x3x262144

/-- The points' first coordinates. -/
def xs (d : FVec Ideal S4x1x512x512 .f32) : FVec Ideal S4x262144 .f32 :=
  shapeCast S4x262144 (extractStridedSlice S4x1x262144 ![0, 0, 0] (points d) slices_S4x3x262144_S4x1x262144_0_0_0) shapeCasts_S4x1x262144_S4x262144

/-- The points' second coordinates. -/
def ys (d : FVec Ideal S4x1x512x512 .f32) : FVec Ideal S4x262144 .f32 :=
  shapeCast S4x262144 (extractStridedSlice S4x1x262144 ![0, 1, 0] (points d) slices_S4x3x262144_S4x1x262144_0_1_0) shapeCasts_S4x1x262144_S4x262144

/-- The points' third coordinates. -/
def zs (d : FVec Ideal S4x1x512x512 .f32) : FVec Ideal S4x262144 .f32 :=
  shapeCast S4x262144 (extractStridedSlice S4x1x262144 ![0, 2, 0] (points d) slices_S4x3x262144_S4x1x262144_0_2_0) shapeCasts_S4x1x262144_S4x262144

/-- How far along its line each point meets the plane of the camera. -/
def ratio (d : FVec Ideal S4x1x512x512 .f32) : FVec Ideal S4x262144 .f32 :=
  Host.divf (subf (broadcastInDim S4x262144 ![] bcast_S_S4x262144 (constant S_ .f32 0x44000000#32)) (zs d)) (Host.negf (zs d))

/-- The pixel coordinate along one axis that points of coordinate `p` on that axis are rounded to. -/
def pixel (d : FVec Ideal S4x1x512x512 .f32) (p : FVec Ideal S4x262144 .f32) : IVec S4x262144 32 :=
  fptosi 32 (Host.roundeven (subf (addf (addf p (mulf (ratio d) (Host.negf p)))
    (broadcastInDim S4x262144 ![] bcast_S_S4x262144 (constant S_ .f32 0x43800000#32))) (broadcastInDim S4x262144 ![] bcast_S_S4x262144 (constant S_ .f32 0x3F000000#32))))

/-- Whether a point is drawn: its depth passes the bound and its pixel lies in the image. -/
def drawn (d : FVec Ideal S4x1x512x512 .f32) : IVec S4x262144 1 :=
  andi (andi (andi (andi (andi (cmpf .oge (zs d) (broadcastInDim S4x262144 ![] bcast_S_S4x262144 (constant S_ .f32 0x3A83126F#32)))
    (cmpf .oge (Host.absf (Host.negf (zs d))) (broadcastInDim S4x262144 ![] bcast_S_S4x262144 (constant S_ .f32 0x3A83126F#32))))
    (cmpi .sge (pixel d (xs d)) (broadcastInDim S4x262144 ![] bcast_S_S4x262144 (constantI S_ 32 0#32))))
    (cmpi .slt (pixel d (xs d)) (broadcastInDim S4x262144 ![] bcast_S_S4x262144 (constantI S_ 32 512#32))))
    (cmpi .sge (pixel d (ys d)) (broadcastInDim S4x262144 ![] bcast_S_S4x262144 (constantI S_ 32 0#32))))
    (cmpi .slt (pixel d (ys d)) (broadcastInDim S4x262144 ![] bcast_S_S4x262144 (constantI S_ 32 512#32)))

/-- The number of the pixel each point lands on, 1048576 (no pixel) for a point that is not drawn. -/
def target (d : FVec Ideal S4x1x512x512 .f32) : IVec S1048576 32 :=
  shapeCast S1048576 (select (drawn d) (addi (addi (muli (broadcastInDim S4x262144 ![0, 1] bcast_S4x1_S4x262144_0_1 (shapeCast S4x1 (iotaInDim S4 32 0) shapeCasts_S4_S4x1))
    (broadcastInDim S4x262144 ![] bcast_S_S4x262144 (constantI S_ 32 262144#32))) (muli (pixel d (ys d)) (broadcastInDim S4x262144 ![] bcast_S_S4x262144 (constantI S_ 32 512#32))))
    (pixel d (xs d))) (broadcastInDim S4x262144 ![] bcast_S_S4x262144 (constantI S_ 32 1048576#32))) shapeCasts_S4x262144_S1048576

/-- Each point's value in the depth test: `1000000 - 20480 / (depth + 1e-7)`. -/
def err (d : FVec Ideal S4x1x512x512 .f32) : FVec Ideal S1048576 .f32 :=
  shapeCast S1048576 (subf (broadcastInDim S4x262144 ![] bcast_S_S4x262144 (constant S_ .f32 0x49742400#32))
    (Host.divf (broadcastInDim S4x262144 ![] bcast_S_S4x262144 (constant S_ .f32 0x46A00000#32))
      (addf (zs d) (broadcastInDim S4x262144 ![] bcast_S_S4x262144 (constant S_ .f32 0x33D6BF95#32))))) shapeCasts_S4x262144_S1048576

/-- An index as the reference reads or writes through it: a negative one counts from the end. -/
def wrapped (k : IVec S1048576 32) : IVec S1048576x1 32 :=
  broadcastInDim S1048576x1 ![0] bcast_S1048576_S1048576x1_0 (select (cmpi .slt k (broadcastInDim S1048576 ![] bcast_S_S1048576 (constantI S_ 32 0#32)))
    (addi k (broadcastInDim S1048576 ![] bcast_S_S1048576 (constantI S_ 32 1048576#32))) k)

/-- The table whose row `p` holds the test values of the points that land on pixel `p`, and `+∞` for the others. -/
def table (k : IVec S1048576 32) (e : FVec Ideal S1048576 .f32) : FVec Ideal S1048576x1048576 .f32 :=
  select (cmpi .eq (broadcastInDim S1048576x1048576 ![0, 1] bcast_S1x1048576_S1048576x1048576_0_1 (broadcastInDim S1x1048576 ![1] bcast_S1048576_S1x1048576_1 k))
      (broadcastInDim S1048576x1048576 ![0, 1] bcast_S1048576x1_S1048576x1048576_0_1 (broadcastInDim S1048576x1 ![0] bcast_S1048576_S1048576x1_0 (iotaInDim S1048576 32 0))))
    (broadcastInDim S1048576x1048576 ![0, 1] bcast_S1x1048576_S1048576x1048576_0_1 (broadcastInDim S1x1048576 ![1] bcast_S1048576_S1x1048576_1 e))
    (broadcastInDim S1048576x1048576 ![] bcast_S_S1048576x1048576 (constant S_ .f32 0x7F800000#32))

/-- The depth buffer: at each pixel, the least test value of the points that land there, at most 1000000. -/
def nearest (k : IVec S1048576 32) (e : FVec Ideal S1048576 .f32) : FVec Ideal S1048576 .f32 :=
  minimumf (broadcastInDim S1048576 ![] bcast_S_S1048576 (constant S_ .f32 0x49742400#32))
    (Host.reduce FloatOps.minimumf (table k e) (constant S_ .f32 0x7F800000#32) reducesTo_S1048576x1048576_S1048576_d1 h_S_)

/-- The pixel whose depth a point is tested against: its own, held within the image. -/
def tested (d : FVec Ideal S4x1x512x512 .f32) : IVec S1048576 32 :=
  minsi (broadcastInDim S1048576 ![] bcast_S_S1048576 (constantI S_ 32 1048575#32))
    (maxsi (broadcastInDim S1048576 ![] bcast_S_S1048576 (constantI S_ 32 0#32)) (target d))

/-- The weight of each point: 1 if it passes the depth test and is drawn, 0 otherwise. -/
def weights (d : FVec Ideal S4x1x512x512 .f32) : FVec Ideal S1048576 .f32 :=
  select (andi (cmpf .ole (err d) (addf (Host.gather gather_S1048576_S1048576x1_S1048576_n_0_n_n_0_1_1 (nearest (target d) (err d)) (wrapped (tested d)))
      (broadcastInDim S1048576 ![] bcast_S_S1048576 (constant S_ .f32 0x3F800000#32)))) (shapeCast S1048576 (drawn d) shapeCasts_S4x262144_S1048576))
    (broadcastInDim S1048576 ![] bcast_S_S1048576 (constant S_ .f32 0x3F800000#32)) (broadcastInDim S1048576 ![] bcast_S_S1048576 (constant S_ .f32 0x00000000#32))

/-- What each point adds to its pixel: its data and a one, times its weight. -/
def values (d : FVec Ideal S4x1x512x512 .f32) (x : FVec Ideal S4x3x262144 .f32) : FVec Ideal S1048576x4 .f32 :=
  shapeCast S1048576x4 (transpose S4x262144x4 [0, 2, 1] (mulf (concatenate S4x4x262144 1 [⟨S4x3x262144, x⟩,
    ⟨S4x1x262144, broadcastInDim S4x1x262144 ![] bcast_S_S4x1x262144 (constant S_ .f32 0x3F800000#32)⟩] concatenates_S4x3x262144_S4x1x262144_S4x4x262144_d1)
    (broadcastInDim S4x4x262144 ![0, 1, 2] bcast_S4x1x262144_S4x4x262144_0_1_2 (shapeCast S4x1x262144 (weights d) shapeCasts_S1048576_S4x1x262144)))
    transposes_S4x4x262144_S4x262144x4_0_2_1) shapeCasts_S4x262144x4_S1048576x4

/-- The sum, pixel by pixel, of what the points that land there add. -/
def summed (d : FVec Ideal S4x1x512x512 .f32) (x : FVec Ideal S4x3x262144 .f32) : FVec Ideal S1048576x4 .f32 :=
  Host.scatterAdd scatter_S1048576x4_S1048576x1_S1048576x4_1_0_0_1 (broadcastInDim S1048576x4 ![] bcast_S_S1048576x4 (constant S_ .f32 0x00000000#32))
    (wrapped (target d)) (values d x)

/-- The reference's result. -/
def result (d : FVec Ideal S4x1x512x512 .f32) (x : FVec Ideal S4x3x262144 .f32) : FVec Ideal S4x4x512x512 .f32 :=
  transpose S4x4x512x512 [0, 3, 1, 2] (shapeCast S4x512x512x4 (summed d x) shapeCasts_S1048576x4_S4x512x512x4) transposes_S4x512x512x4_S4x4x512x512_0_3_1_2

end Cert.RefStages

end
-- ==== Proof.RefRun.lean ====
/- The reference's run: it ends with the result named stage by stage. -/
module

public import proofs.«01_k».proof.Proof.RefStages

@[expose] public section

set_option maxRecDepth 16384

noncomputable section

namespace Cert.RefRun

open Cert.ReferenceIdeal Cert.ReferenceIdeal.Gen Cert.ReferenceIdeal.Value Cert.RefStages Idealize.ShloMosaic Idealize.ShloMosaic.TcCoe Idealize.ShloMosaic.StableHlo Idealize.SL.Sem

variable (V : Valuation τ sig (Elt Ideal))

/-- The depths, the first argument. -/
def depth : FVec Ideal S4x1x512x512 .f32 := V (Proc.devRef .tc main_arg0)

theorem points_eq : res_main_v13 V = points (depth V) := rfl
theorem xs_eq : res_main_v17 V = xs (depth V) := by unfold xs; rw [← points_eq]; rfl
theorem ys_eq : res_main_v19 V = ys (depth V) := by unfold ys; rw [← points_eq]; rfl
theorem zs_eq : res_main_v21 V = zs (depth V) := by unfold zs; rw [← points_eq]; rfl
theorem ratio_eq : res_main_v25 V = ratio (depth V) := by unfold ratio; rw [← zs_eq]; rfl
theorem col_eq : res_main_v47 V = pixel (depth V) (xs (depth V)) := by unfold pixel; rw [← xs_eq, ← ratio_eq]; rfl
theorem row_eq : res_main_v49 V = pixel (depth V) (ys (depth V)) := by unfold pixel; rw [← ys_eq, ← ratio_eq]; rfl
theorem drawn_eq : res_main_v67 V = drawn (depth V) := by unfold drawn; rw [← zs_eq, ← col_eq, ← row_eq]; rfl
theorem target_eq : res_main_v78 V = target (depth V) := by unfold target; rw [← drawn_eq, ← col_eq, ← row_eq]; rfl
theorem err_eq : res_main_v79 V = err (depth V) := by unfold err; rw [← zs_eq]; rfl
theorem tested_eq : res_main_v91 V = tested (depth V) := by unfold tested; rw [← target_eq]; rfl

/-- Every run of the reference ends with `result` of the arguments in its result array and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v120) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨(h c).1.trans ?_, (h c).2⟩) (Cert.ReferenceIdeal.Value.run m ρ)
  have hd : m ((c.tc : Thread nD τ).loc main_arg0) = depth (launchContents m c) := rfl
  unfold result summed values weights
  rw [hd, ← target_eq, ← err_eq, ← tested_eq, ← drawn_eq]
  rfl

end Cert.RefRun

end
-- ==== Proof.RefPoint.lean ====
/- The reference's points: where each pixel's depth is taken to. -/
module

public import proofs.«01_k».proof.Proof.RefStages

@[expose] public section

set_option maxRecDepth 16384

noncomputable section

namespace Cert.RefPoint

open Cert.ReferenceIdeal Cert.ReferenceIdeal.Gen Cert.Consts Cert.RefStages Idealize.ShloMosaic

variable (d : FVec Ideal S4x1x512x512 .f32)

/-- The depth of point `n` of batch `b`. -/
def z (b : Fin 4) (n : Fin 262144) : EReal := d (ix4 b 0 ⟨n.val / 512, by omega⟩ ⟨n.val % 512, by omega⟩)

/-- The slope of pixel coordinate `q` as a number: `(q - 255.5) / 512`. -/
def slope (q : ℕ) : ℝ := ((q : ℝ) - 511 / 2) * (1 / 512)

/-- An entry of the evenly spaced grid from -255.5 to 255.5, its last entry taken from the end, times `1 / 512`. -/
theorem grid_entry (q : ℕ) (hq : q < 512) :
    (if h : q < 511 then
        Ideal.ofBits .f32 0xC37F8000#32 * (1 - Ideal.div (FloatOps.sitofp (F := Ideal) .f32 (BitVec.ofNat 32 q)) (Ideal.ofBits .f32 0x43FF8000#32))
          + Ideal.ofBits .f32 0x437F8000#32 * Ideal.div (FloatOps.sitofp (F := Ideal) .f32 (BitVec.ofNat 32 q)) (Ideal.ofBits .f32 0x43FF8000#32)
      else Ideal.ofBits .f32 0x437F8000#32) * Ideal.ofBits .f32 0x3B000000#32 = ((slope q : ℝ) : EReal) := by
  have hne : ((511 : ℝ) : EReal) ≠ 0 := by exact_mod_cast (by norm_num : (511 : ℝ) ≠ 0)
  rw [sitofp_ofNat q (by omega), wm255h, w255h, w511, wInv512, Ideal.div, if_neg hne, ← EReal.coe_inv, ← EReal.coe_mul, slope]
  split
  · rw [← EReal.coe_one, ← EReal.coe_sub, ← EReal.coe_mul, ← EReal.coe_mul, ← EReal.coe_add, ← EReal.coe_mul]
    congr 1
    ring
  · obtain rfl : q = 511 := by omega
    rw [← EReal.coe_mul]
    congr 1
    norm_num

/-- The three coordinates of the points at an index. -/
theorem points_x (b : Fin 4) (n : Fin 262144) : points d (ix3 b 0 n) = z d b n * ((slope (n.val % 512) : ℝ) : EReal) := by
  rw [← grid_entry _ (Nat.mod_lt _ (by norm_num))]
  unfold z points spaced fraction
  pointwise

theorem points_y (b : Fin 4) (n : Fin 262144) : points d (ix3 b 1 n) = z d b n * ((slope (n.val / 512) : ℝ) : EReal) := by
  rw [← grid_entry _ (by omega)]
  unfold z points spaced fraction
  pointwise

theorem points_z (b : Fin 4) (n : Fin 262144) : points d (ix3 b 2 n) = z d b n := by
  unfold z points
  pointwise

/-- Channel `k` of an array of points, at an index. -/
theorem channel0 (P : FVec Ideal S4x3x262144 .f32) (b : Fin 4) (n : Fin 262144) :
    (shapeCast S4x262144 (extractStridedSlice S4x1x262144 ![0, 0, 0] P slices_S4x3x262144_S4x1x262144_0_0_0)
      shapeCasts_S4x1x262144_S4x262144 : FVec Ideal S4x262144 .f32) (ix2 b n) = P (ix3 b 0 n) := by
  pointwise

theorem channel1 (P : FVec Ideal S4x3x262144 .f32) (b : Fin 4) (n : Fin 262144) :
    (shapeCast S4x262144 (extractStridedSlice S4x1x262144 ![0, 1, 0] P slices_S4x3x262144_S4x1x262144_0_1_0)
      shapeCasts_S4x1x262144_S4x262144 : FVec Ideal S4x262144 .f32) (ix2 b n) = P (ix3 b 1 n) := by
  pointwise

theorem channel2 (P : FVec Ideal S4x3x262144 .f32) (b : Fin 4) (n : Fin 262144) :
    (shapeCast S4x262144 (extractStridedSlice S4x1x262144 ![0, 2, 0] P slices_S4x3x262144_S4x1x262144_0_2_0)
      shapeCasts_S4x1x262144_S4x262144 : FVec Ideal S4x262144 .f32) (ix2 b n) = P (ix3 b 2 n) := by
  pointwise

/-- The third coordinate of a point is its depth. -/
theorem zs_at (b : Fin 4) (n : Fin 262144) : zs d (ix2 b n) = z d b n :=
  (channel2 (points d) b n).trans (points_z d b n)

/-- The first coordinate of a point is its depth times the slope of its column. -/
theorem xs_at (b : Fin 4) (n : Fin 262144) : xs d (ix2 b n) = z d b n * ((slope (n.val % 512) : ℝ) : EReal) :=
  (channel0 (points d) b n).trans (points_x d b n)

/-- The second coordinate of a point is its depth times the slope of its row. -/
theorem ys_at (b : Fin 4) (n : Fin 262144) : ys d (ix2 b n) = z d b n * ((slope (n.val / 512) : ℝ) : EReal) :=
  (channel1 (points d) b n).trans (points_y d b n)

/-- A point of real depth `t`, not 0, with slope `s`, taken to the plane of the camera and to pixels, is at `512 s + 255.5`. -/
theorem projected (t s : ℝ) (ht : t ≠ 0) :
    (t : EReal) * (s : EReal) + Ideal.div (((512 : ℝ) : EReal) - (t : EReal)) (-(t : EReal)) * -((t : EReal) * (s : EReal))
      + ((256 : ℝ) : EReal) - ((1 / 2 : ℝ) : EReal) = ((512 * s + 511 / 2 : ℝ) : EReal) := by
  have hne : -(t : EReal) ≠ 0 := by
    rw [← EReal.coe_neg]
    exact_mod_cast neg_ne_zero.mpr ht
  rw [Ideal.div, if_neg hne, ← EReal.coe_neg, ← EReal.coe_inv, ← EReal.coe_sub, ← EReal.coe_mul, ← EReal.coe_mul, ← EReal.coe_neg,
    ← EReal.coe_mul, ← EReal.coe_add, ← EReal.coe_add, ← EReal.coe_sub]
  congr 1
  field_simp
  ring

/-- Pixel `q`'s place, rounded and read as a 32-bit word, is `q`. -/
theorem word_of_place (q : ℕ) (hq : q < 512) :
    FloatOps.fptosi (F := Ideal) (φ := .f32) 32 (Ideal.liftRound Ideal.roundHalfEven ((512 * slope q + 511 / 2 : ℝ) : EReal))
      = BitVec.ofNat 32 q := by
  have h : (512 * slope q + 511 / 2 : ℝ) = (q : ℝ) := by
    unfold slope
    ring
  rw [h, round_nat]
  change BitVec.ofInt 32 (Ideal.toIntClamped _ _ _) = _
  rw [Ideal.toIntClamped_coe, if_pos (Nat.cast_nonneg q), Int.floor_natCast, min_eq_right (by norm_num; omega),
    max_eq_right (by norm_num)]
  rfl

/-- The chain from coordinates `p` and depths `Z` to pixel coordinates, at an index. -/
theorem chain_at (p Z : FVec Ideal S4x262144 .f32) (b : Fin 4) (n : Fin 262144) :
    (fptosi 32 (Host.roundeven (subf (addf (addf p (mulf (Host.divf (subf (broadcastInDim S4x262144 ![] bcast_S_S4x262144 (constant S_ .f32 0x44000000#32)) Z) (Host.negf Z)) (Host.negf p)))
      (broadcastInDim S4x262144 ![] bcast_S_S4x262144 (constant S_ .f32 0x43800000#32))) (broadcastInDim S4x262144 ![] bcast_S_S4x262144 (constant S_ .f32 0x3F000000#32)))) : IVec S4x262144 32) (ix2 b n)
    = FloatOps.fptosi (F := Ideal) (φ := .f32) 32 (Ideal.liftRound Ideal.roundHalfEven
        (p (ix2 b n) + Ideal.div (((512 : ℝ) : EReal) - Z (ix2 b n)) (-Z (ix2 b n)) * -p (ix2 b n) + ((256 : ℝ) : EReal) - ((1 / 2 : ℝ) : EReal))) := by
  rw [← w512, ← w256, ← wHalf]
  pointwise

/-- The pixel coordinate of a point of real depth, not 0, on an axis where it is its depth times the slope of pixel `q`. -/
theorem pixel_at (p : FVec Ideal S4x262144 .f32) (b : Fin 4) (n : Fin 262144) (q : ℕ) (hq : q < 512) (t : ℝ) (ht : t ≠ 0)
    (hz : z d b n = (t : EReal)) (hp : p (ix2 b n) = z d b n * ((slope q : ℝ) : EReal)) :
    pixel d p (ix2 b n) = BitVec.ofNat 32 q := by
  refine (chain_at p (zs d) b n).trans ?_
  rw [hp, zs_at, hz, projected t (slope q) ht, word_of_place q hq]

end Cert.RefPoint

end
-- ==== Proof.RefDrawn.lean ====
/- Which of the reference's points are drawn, and on which pixel. -/
module

public import proofs.«01_k».proof.Proof.RefPoint

@[expose] public section

set_option maxRecDepth 16384

noncomputable section

namespace Cert.RefDrawn

open Cert.ReferenceIdeal Cert.ReferenceIdeal.Gen Cert.Consts Cert.RefStages Cert.RefPoint Idealize.ShloMosaic

/-- The bound on the depth is positive. -/
theorem least_pos : (0 : EReal) < least := by
  rw [least, wLeast]
  exact_mod_cast (by norm_num : (0 : ℝ) < 8589935 / 8589934592)

/-- A depth at least the bound and below `+∞` is a positive real. -/
theorem real_of_drawn (x : EReal) (h : least ≤ x) (ht : x ≠ ⊤) : ∃ t : ℝ, 0 < t ∧ x = (t : EReal) := by
  have h0 : (0 : EReal) < x := lt_of_lt_of_le least_pos h
  have hb : x ≠ ⊥ := fun e => by simp [e] at h0
  lift x to ℝ using ⟨ht, hb⟩
  exact ⟨x, by exact_mod_cast h0, rfl⟩

/-- The chain of six tests at an index. -/
theorem tests_at (Z : FVec Ideal S4x262144 .f32) (X Y : IVec S4x262144 32) (b : Fin 4) (n : Fin 262144) :
    (andi (andi (andi (andi (andi (cmpf .oge Z (broadcastInDim S4x262144 ![] bcast_S_S4x262144 (constant S_ .f32 0x3A83126F#32)))
      (cmpf .oge (Host.absf (Host.negf Z)) (broadcastInDim S4x262144 ![] bcast_S_S4x262144 (constant S_ .f32 0x3A83126F#32))))
      (cmpi .sge X (broadcastInDim S4x262144 ![] bcast_S_S4x262144 (constantI S_ 32 0#32))))
      (cmpi .slt X (broadcastInDim S4x262144 ![] bcast_S_S4x262144 (constantI S_ 32 512#32))))
      (cmpi .sge Y (broadcastInDim S4x262144 ![] bcast_S_S4x262144 (constantI S_ 32 0#32))))
      (cmpi .slt Y (broadcastInDim S4x262144 ![] bcast_S_S4x262144 (constantI S_ 32 512#32))) : IVec S4x262144 1) (ix2 b n)
    = BitVec.ofBool (decide (least ≤ Z (ix2 b n)) && decide (least ≤ FloatOps.absf (F := Ideal) (φ := .f32) (-Z (ix2 b n)))
        && decide (0 ≤ (X (ix2 b n)).toInt) && decide ((X (ix2 b n)).toInt < 512)
        && decide (0 ≤ (Y (ix2 b n)).toInt) && decide ((Y (ix2 b n)).toInt < 512)) := by
  unfold least
  pointwise
  simp only [IntOp.andi, IntOp.cmpi, BitVec.ofBool_and_ofBool, BitVec.sle, BitVec.slt]
  rfl

/-- Where no depth is `+∞`, a point is drawn exactly if its depth is at least the bound. -/
theorem drawn_at (d : FVec Ideal S4x1x512x512 .f32) (hd : ∀ i, d i ≠ ⊤) (b : Fin 4) (n : Fin 262144) :
    drawn d (ix2 b n) = BitVec.ofBool (decide (least ≤ z d b n)) := by
  refine (tests_at (zs d) (pixel d (xs d)) (pixel d (ys d)) b n).trans ?_
  rw [zs_at]
  by_cases h : least ≤ z d b n
  · obtain ⟨t, ht, e⟩ := real_of_drawn _ h (hd _)
    rw [pixel_at d (xs d) b n (n.val % 512) (by omega) t ht.ne' e (xs_at d b n),
      pixel_at d (ys d) b n (n.val / 512) (by omega) t ht.ne' e (ys_at d b n), toInt_small _ (by omega), toInt_small _ (by omega)]
    have h' : least ≤ FloatOps.absf (F := Ideal) (φ := .f32) (-z d b n) := by
      change least ≤ max (-z d b n) (- -z d b n)
      rw [neg_neg]
      exact le_max_of_le_right h
    have hx : ((n.val % 512 : ℕ) : ℤ) < 512 := by omega
    have hy : ((n.val / 512 : ℕ) : ℤ) < 512 := by omega
    rw [decide_eq_true h, decide_eq_true h', decide_eq_true (Int.natCast_nonneg _), decide_eq_true hx,
      decide_eq_true (Int.natCast_nonneg _), decide_eq_true hy]
    rfl
  · simp [h]

/-- The chain from pixel coordinates to the pixel's number, at point `j` of all. -/
theorem number_at (K : IVec S4x262144 1) (X Y : IVec S4x262144 32) (j : Fin 1048576) :
    (shapeCast S1048576 (select K (addi (addi (muli (broadcastInDim S4x262144 ![0, 1] bcast_S4x1_S4x262144_0_1 (shapeCast S4x1 (iotaInDim S4 32 0) shapeCasts_S4_S4x1))
      (broadcastInDim S4x262144 ![] bcast_S_S4x262144 (constantI S_ 32 262144#32))) (muli Y (broadcastInDim S4x262144 ![] bcast_S_S4x262144 (constantI S_ 32 512#32))))
      X) (broadcastInDim S4x262144 ![] bcast_S_S4x262144 (constantI S_ 32 1048576#32))) shapeCasts_S4x262144_S1048576 : IVec S1048576 32) (ix1 j)
    = if K (ix2 ⟨j.val / 262144, by omega⟩ ⟨j.val % 262144, by omega⟩) = 1#1 then
        BitVec.ofNat 32 (j.val / 262144) * 262144#32 + Y (ix2 ⟨j.val / 262144, by omega⟩ ⟨j.val % 262144, by omega⟩) * 512#32
          + X (ix2 ⟨j.val / 262144, by omega⟩ ⟨j.val % 262144, by omega⟩)
      else 1048576#32 := by
  pointwise
  rfl

/-- The depth of point `j` of all. -/
def depthOf (d : FVec Ideal S4x1x512x512 .f32) (j : Fin 1048576) : EReal := z d ⟨j.val / 262144, by omega⟩ ⟨j.val % 262144, by omega⟩

/-- Where no depth is `+∞`, a drawn point lands on the pixel of its own number, and one not drawn on none. -/
theorem target_at (d : FVec Ideal S4x1x512x512 .f32) (hd : ∀ i, d i ≠ ⊤) (j : Fin 1048576) :
    target d (ix1 j) = if least ≤ depthOf d j then BitVec.ofNat 32 j.val else 1048576#32 := by
  refine (number_at (drawn d) (pixel d (xs d)) (pixel d (ys d)) j).trans ?_
  rw [drawn_at d hd]
  change (if BitVec.ofBool (decide (least ≤ depthOf d j)) = 1#1 then _ else _) = _
  by_cases h : least ≤ depthOf d j
  · obtain ⟨t, ht, e⟩ := real_of_drawn _ h (hd _)
    rw [decide_eq_true h, if_pos (show BitVec.ofBool true = 1#1 from rfl), if_pos h, pixel_at d (xs d) _ _ (j.val % 262144 % 512) (by omega) t ht.ne' e (xs_at d _ _),
      pixel_at d (ys d) _ _ (j.val % 262144 / 512) (by omega) t ht.ne' e (ys_at d _ _)]
    apply BitVec.eq_of_toNat_eq
    simp only [BitVec.toNat_add, BitVec.toNat_mul, BitVec.toNat_ofNat]
    omega
  · rw [decide_eq_false h, if_neg (by decide), if_neg h]

end Cert.RefDrawn

end
-- ==== Proof.RefDepth.lean ====
/- The reference's depth test: the points that pass are the points that are drawn. -/
module

public import proofs.«01_k».proof.Proof.RefDrawn
public import Idealize.ShloMosaic.Lib.Routing.OpsSet

@[expose] public section

set_option maxRecDepth 16384

noncomputable section

namespace Cert.RefDepth

open Cert.ReferenceIdeal Cert.ReferenceIdeal.Gen Cert.Consts Cert.RefStages Cert.RefPoint Cert.RefDrawn Idealize.ShloMosaic

/-- The test value at point `j`, from the depths. -/
theorem value_at (Z : FVec Ideal S4x262144 .f32) (j : Fin 1048576) :
    (shapeCast S1048576 (subf (broadcastInDim S4x262144 ![] bcast_S_S4x262144 (constant S_ .f32 0x49742400#32))
      (Host.divf (broadcastInDim S4x262144 ![] bcast_S_S4x262144 (constant S_ .f32 0x46A00000#32))
        (addf Z (broadcastInDim S4x262144 ![] bcast_S_S4x262144 (constant S_ .f32 0x33D6BF95#32))))) shapeCasts_S4x262144_S1048576
      : FVec Ideal S1048576 .f32) (ix1 j)
    = Ideal.ofBits .f32 0x49742400#32 - Ideal.div (Ideal.ofBits .f32 0x46A00000#32)
        (Z (ix2 ⟨j.val / 262144, by omega⟩ ⟨j.val % 262144, by omega⟩) + Ideal.ofBits .f32 0x33D6BF95#32) := by
  pointwise

/-- A number less the quotient of 20480 by a positive number is at most that number. -/
theorem value_le (t : ℝ) (ht : 0 < t) :
    Ideal.ofBits .f32 0x49742400#32 - Ideal.div (Ideal.ofBits .f32 0x46A00000#32) ((t : EReal) + Ideal.ofBits .f32 0x33D6BF95#32)
      ≤ Ideal.ofBits .f32 0x49742400#32 := by
  have hp : (0 : ℝ) < t + 14073749 / 140737488355328 := by positivity
  have hne : ((t + 14073749 / 140737488355328 : ℝ) : EReal) ≠ 0 := by exact_mod_cast hp.ne'
  rw [wFar, wScale, wTiny, ← EReal.coe_add, Ideal.div, if_neg hne, ← EReal.coe_inv, ← EReal.coe_mul, ← EReal.coe_sub, EReal.coe_le_coe_iff]
  have : 0 ≤ 20480 * (t + 14073749 / 140737488355328)⁻¹ := by positivity
  linarith

/-- Where no depth is `+∞`, a drawn point's test value is at most 1000000. -/
theorem err_le (d : FVec Ideal S4x1x512x512 .f32) (hd : ∀ i, d i ≠ ⊤) (j : Fin 1048576) (h : least ≤ depthOf d j) :
    err d (ix1 j) ≤ Ideal.ofBits .f32 0x49742400#32 := by
  obtain ⟨t, ht, e⟩ := real_of_drawn _ h (hd _)
  refine le_of_eq_of_le (value_at (zs d) j) ?_
  rw [zs_at]
  change _ - Ideal.div _ (depthOf d j + _) ≤ _
  rw [e]
  exact value_le t ht

/-- An entry of the table: the test value of point `q`, if that point lands on pixel `p`. -/
theorem table_at (k : IVec S1048576 32) (e : FVec Ideal S1048576 .f32) (p q : Fin 1048576) :
    table k e (ix2 p q) = if k (ix1 q) = BitVec.ofNat 32 p.val then e (ix1 q) else Ideal.ofBits .f32 0x7F800000#32 := by
  unfold table
  pointwise
  unfold Scalar.select IntOp.cmpi
  by_cases h : k (ix1 q) = BitVec.ofNat 32 p.val
  · rw [if_pos h, if_pos (by simp [h])]
  · rw [if_neg h, if_neg]
    rw [beq_eq_false_iff_ne.2 h]
    exact (by decide : ¬ BitVec.ofBool false = 1#1)

/-- A row's minimum from `+∞` is at least whatever its entries are at least. -/
theorem row_min (T : FVec Ideal S1048576x1048576 .f32) (p : Fin 1048576) (L : EReal) (h : ∀ q : Fin 1048576, L ≤ T (ix2 p q)) :
    L ≤ Host.reduce FloatOps.minimumf T (constant S_ .f32 0x7F800000#32) reducesTo_S1048576x1048576_S1048576_d1 h_S_ (ix1 p) := by
  rw [Host.reduce_eq_foldl]
  have step : ∀ (l : List S1048576x1048576.Idx) (v : EReal), L ≤ v → (∀ i ∈ l, L ≤ T i) →
      L ≤ l.foldl (fun r i => FloatOps.minimumf (F := Ideal) (φ := .f32) r (T i)) v := by
    intro l
    induction l with
    | nil => exact fun v hv _ => hv
    | cons a l ih =>
      intro v hv hl
      exact ih _ (le_min hv (hl a List.mem_cons_self)) fun i hi => hl i (List.mem_cons_of_mem _ hi)
  refine step _ _ ?_ ?_
  · change L ≤ Ideal.ofBits .f32 0x7F800000#32
    rw [wInf]
    exact le_top
  · intro i hi
    have hp := of_decide_eq_true (List.mem_filter.1 hi).2
    have h0 := (reducesTo_S1048576x1048576_S1048576_d1.drop_apply_val_of_eq i 0 0).symm
    rw [hp] at h0
    have e : i = ix2 p (i 1) := by
      funext a
      match a with
      | ⟨0, _⟩ => exact Fin.ext h0
      | ⟨1, _⟩ => rfl
    rw [e]
    exact h _

/-- The lesser of 1000000 and an array's entry. -/
theorem lesser_at (R : FVec Ideal S1048576 .f32) (p : Fin 1048576) :
    (minimumf (broadcastInDim S1048576 ![] bcast_S_S1048576 (constant S_ .f32 0x49742400#32)) R : FVec Ideal S1048576 .f32) (ix1 p)
    = min (Ideal.ofBits .f32 0x49742400#32) (R (ix1 p)) := by
  pointwise

/-- The depth buffer at a pixel. -/
theorem nearest_at (k : IVec S1048576 32) (e : FVec Ideal S1048576 .f32) (p : Fin 1048576) :
    nearest k e (ix1 p) = min (Ideal.ofBits .f32 0x49742400#32)
      (Host.reduce FloatOps.minimumf (table k e) (constant S_ .f32 0x7F800000#32) reducesTo_S1048576x1048576_S1048576_d1 h_S_ (ix1 p)) :=
  lesser_at _ p

/-- Two numbers of points are equal if their words are. -/
theorem number_inj (p q : Fin 1048576) (h : BitVec.ofNat 32 q.val = BitVec.ofNat 32 p.val) : q = p := by
  have h' := congrArg BitVec.toNat h
  simp only [BitVec.toNat_ofNat] at h'
  exact Fin.ext (by omega)

/-- Only the drawn point of the pixel's own number lands on a pixel. -/
theorem lands_iff (d : FVec Ideal S4x1x512x512 .f32) (hd : ∀ i, d i ≠ ⊤) (p q : Fin 1048576) :
    target d (ix1 q) = BitVec.ofNat 32 p.val ↔ q = p ∧ least ≤ depthOf d q := by
  rw [target_at d hd]
  split
  · next h => exact ⟨fun e => ⟨number_inj p q e, h⟩, fun e => by rw [e.1]⟩
  · next h =>
    refine ⟨fun e => ?_, fun e => (h e.2).elim⟩
    have h' := congrArg BitVec.toNat e
    simp only [BitVec.toNat_ofNat] at h'
    omega

/-- A drawn point's test value is at most the depth buffer at its own pixel. -/
theorem err_le_nearest (d : FVec Ideal S4x1x512x512 .f32) (hd : ∀ i, d i ≠ ⊤) (j : Fin 1048576) (h : least ≤ depthOf d j) :
    err d (ix1 j) ≤ nearest (target d) (err d) (ix1 j) := by
  rw [nearest_at]
  refine le_min (err_le d hd j h) (row_min _ j _ fun q => ?_)
  rw [table_at]
  split
  · next e => rw [((lands_iff d hd j q).1 e).1]
  · rw [wInf]
    exact le_top

/-- An index read through the wrap of negative ones. -/
theorem wrap_at (k : IVec S1048576 32) (j : Fin 1048576) :
    wrapped k (ix2 j 0) = if (k (ix1 j)).toInt < 0 then k (ix1 j) + 1048576#32 else k (ix1 j) := by
  unfold wrapped
  pointwise
  unfold Scalar.select IntOp.cmpi
  by_cases h : (k (ix1 j)).toInt < 0
  · rw [if_pos h, if_pos (by simp [BitVec.slt, h])]
    rfl
  · rw [if_neg h, if_neg (by simp [BitVec.slt, h])]

/-- An index held within the image. -/
theorem held_at (k : IVec S1048576 32) (j : Fin 1048576) :
    (minsi (broadcastInDim S1048576 ![] bcast_S_S1048576 (constantI S_ 32 1048575#32))
      (maxsi (broadcastInDim S1048576 ![] bcast_S_S1048576 (constantI S_ 32 0#32)) k)) (ix1 j)
    = IntOp.minsi 1048575#32 (IntOp.maxsi 0#32 (k (ix1 j))) := by
  pointwise

/-- A drawn point is tested against the pixel of its own number. -/
theorem tested_at (d : FVec Ideal S4x1x512x512 .f32) (hd : ∀ i, d i ≠ ⊤) (j : Fin 1048576) (h : least ≤ depthOf d j) :
    wrapped (tested d) (ix2 j 0) = BitVec.ofNat 32 j.val := by
  have e : tested d (ix1 j) = BitVec.ofNat 32 j.val := by
    refine (held_at (target d) j).trans ?_
    rw [target_at d hd, if_pos h]
    have hj := toInt_small j.val (by omega)
    have h0 : IntOp.maxsi 0#32 (BitVec.ofNat 32 j.val) = BitVec.ofNat 32 j.val := by
      unfold IntOp.maxsi
      rw [if_neg]
      simp only [BitVec.slt, hj, BitVec.toInt_zero]
      simp
    have h1 : (1048575#32).toInt = 1048575 := by decide
    rw [h0]
    unfold IntOp.minsi
    rw [if_neg]
    simp only [BitVec.slt, hj, h1, decide_eq_true_eq]
    omega
  rw [wrap_at, e, if_neg]
  rw [toInt_small j.val (by omega)]
  omega

/-- The depth buffer read where the indices hold a point's own number. -/
theorem read_at (T : FVec Ideal S1048576 .f32) (k : IVec S1048576x1 32) (j : Fin 1048576) (h : k (ix2 j 0) = BitVec.ofNat 32 j.val) :
    Host.gather gather_S1048576_S1048576x1_S1048576_n_0_n_n_0_1_1 T k (ix1 j) = T (ix1 j) :=
  Routing.gather_take1 gather_S1048576_S1048576x1_S1048576_n_0_n_n_0_1_1 rfl rfl rfl rfl T k j j h (by norm_num)

/-- The weights at an index, from the test values, the buffer as read, and which points are drawn. -/
theorem test_at (E G : FVec Ideal S1048576 .f32) (K : IVec S4x262144 1) (j : Fin 1048576) :
    (select (andi (cmpf .ole E (addf G (broadcastInDim S1048576 ![] bcast_S_S1048576 (constant S_ .f32 0x3F800000#32))))
        (shapeCast S1048576 K shapeCasts_S4x262144_S1048576))
      (broadcastInDim S1048576 ![] bcast_S_S1048576 (constant S_ .f32 0x3F800000#32))
      (broadcastInDim S1048576 ![] bcast_S_S1048576 (constant S_ .f32 0x00000000#32)) : FVec Ideal S1048576 .f32) (ix1 j)
    = if BitVec.ofBool (decide (E (ix1 j) ≤ G (ix1 j) + 1)) &&& K (ix2 ⟨j.val / 262144, by omega⟩ ⟨j.val % 262144, by omega⟩) = 1#1
        then (1 : EReal) else 0 := by
  pointwise
  rfl

/-- Where no depth is `+∞`, a point's weight is 1 if its depth is at least the bound, and 0 otherwise. -/
theorem weights_at (d : FVec Ideal S4x1x512x512 .f32) (hd : ∀ i, d i ≠ ⊤) (j : Fin 1048576) :
    weights d (ix1 j) = wt (depthOf d j) := by
  refine (test_at (err d) _ (drawn d) j).trans ?_
  rw [drawn_at d hd]
  change (if _ &&& BitVec.ofBool (decide (least ≤ depthOf d j)) = 1#1 then (1 : EReal) else 0) = if least ≤ depthOf d j then 1 else 0
  by_cases h : least ≤ depthOf d j
  · rw [read_at _ _ j (tested_at d hd j h), decide_eq_true h,
      decide_eq_true ((err_le_nearest d hd j h).trans (le_add_of_nonneg_right zero_le_one)), if_pos h, if_pos]
    rfl
  · rw [decide_eq_false h, if_neg h, if_neg]
    simp

end Cert.RefDepth

end
-- ==== Proof.Scatter.lean ====
/- A sum of rows scattered into a matrix, one row number each. -/
module

public import Idealize.ShloMosaic.PureOps.Ideal
public import Idealize.ShloMosaic.Lib.Routing.OpsPair

@[expose] public section

noncomputable section

namespace Cert.Scatter

open Idealize.ShloMosaic Idealize.ShloMosaic.ValueIdx Idealize.ShloMosaic.Routing

/-- Element `(q, e')` of the updates lands at `(p, e)` exactly when row `q`'s number, read signed, is `p`, and `e'` is `e`. -/
theorem lands_row {R U C : Nat} (d : ScatterDims (shape2 R C) (shape2 U 1) (shape2 U C)) (huw : d.updateWindowDims = [1])
    (hiw : d.insertedWindowDims = [0]) (hsd : d.scatterDimsToOperandDims = [0]) (hiv : d.indexVectorDim = 1)
    (idx : IVec (shape2 U 1) 32) (q : Fin U) (e' : Fin C) (p : Fin R) (e : Fin C) :
    d.resultIdx? (ix2 q e') idx = some (ix2 p e) ↔ (idx (ix2 q (0 : Fin 1))).toInt = (p.val : Int) ∧ e' = e := by
  obtain ⟨uw, iw, sd, iv, wf⟩ := d
  dsimp only at huw hiw hsd hiv
  subst huw hiw hsd hiv
  rw [resultIdx?_ix2, Fin.ext_iff]
  have hw0 : ScatterDims.window (si := shape2 U 1) ⟨[1], [0], [0], 1, wf⟩ (ix2 q e') 0 = 0 := by
    unfold ScatterDims.window
    exact dif_neg (by simp [ScatterDims.sKept, Shape.kept])
  have hw1 : ScatterDims.window (si := shape2 U 1) ⟨[1], [0], [0], 1, wf⟩ (ix2 q e') 1 = e'.val := rfl
  have hs0 : ScatterDims.start (s := shape2 R C) (si := shape2 U 1) ⟨[1], [0], [0], 1, wf⟩ (ix2 q e') idx 0 = (idx (ix2 q (0 : Fin 1))).toInt := by
    unfold ScatterDims.start
    rw [dif_pos List.mem_cons_self]
    refine congrArg (fun i => (idx i).toInt) (funext fun a => ?_)
    match a with
    | ⟨0, _⟩ => rfl
    | ⟨1, _⟩ => rfl
  have hs1 : ScatterDims.start (s := shape2 R C) (si := shape2 U 1) ⟨[1], [0], [0], 1, wf⟩ (ix2 q e') idx 1 = 0 := rfl
  rw [hw0, hw1, hs0, hs1]
  omega

/-- Where at most row `p` of the updates goes to row `p`, that row of the scattered sum from zero is the update's if it does, and 0 otherwise. -/
theorem scatter_own {N C : Nat} (d : ScatterDims (shape2 N C) (shape2 N 1) (shape2 N C)) (huw : d.updateWindowDims = [1])
    (hiw : d.insertedWindowDims = [0]) (hsd : d.scatterDimsToOperandDims = [0]) (hiv : d.indexVectorDim = 1)
    (x0 upd : FVec Ideal (shape2 N C) .f32) (idx : IVec (shape2 N 1) 32) (p : Fin N) (e : Fin C) (hx : x0 (ix2 p e) = (0 : EReal))
    (own : ∀ q : Fin N, (idx (ix2 q (0 : Fin 1))).toInt = (p.val : Int) → q = p) :
    Host.scatterAdd d x0 idx upd (ix2 p e) = if (idx (ix2 p (0 : Fin 1))).toInt = (p.val : Int) then upd (ix2 p e) else (0 : EReal) := by
  have lands : ∀ j : (shape2 N C).Idx, d.resultIdx? j idx = some (ix2 p e) ↔ j = ix2 p e ∧ (idx (ix2 p (0 : Fin 1))).toInt = (p.val : Int) := by
    intro j
    obtain ⟨q, e', rfl⟩ : ∃ (q : Fin N) (e' : Fin C), j = ix2 q e' := ⟨j 0, j 1, eq_ix2 j⟩
    rw [lands_row d huw hiw hsd hiv]
    constructor
    · rintro ⟨h, rfl⟩
      obtain rfl := own q h
      exact ⟨rfl, h⟩
    · rintro ⟨h, h'⟩
      obtain rfl : q = p := congrFun h 0
      exact ⟨h', congrFun h 1⟩
  change x0 (ix2 p e) + ∑ j with d.resultIdx? j idx = some (ix2 p e), upd j = _
  rw [hx, zero_add]
  split
  · next h =>
    rw [show (Finset.univ.filter fun j => d.resultIdx? j idx = some (ix2 p e)) = {ix2 p e} from
      Finset.ext fun j => by simp [lands, h], Finset.sum_singleton]
  · next h =>
    rw [show (Finset.univ.filter fun j => d.resultIdx? j idx = some (ix2 p e)) = ∅ from
      Finset.ext fun j => by simp [lands, h], Finset.sum_empty]

end Cert.Scatter

end
-- ==== Proof.RefSum.lean ====
/- The sums the reference takes at each pixel, and its result. -/
module

public import proofs.«01_k».proof.Proof.RefDepth
public import proofs.«01_k».proof.Proof.Scatter

@[expose] public section

set_option maxRecDepth 16384

noncomputable section

namespace Cert.RefSum

open Cert.ReferenceIdeal Cert.ReferenceIdeal.Gen Cert.Consts Cert.RefStages Cert.RefPoint Cert.RefDrawn Cert.RefDepth Idealize.ShloMosaic

/-- What a point adds to its pixel in one channel, from the data and the weights. -/
theorem value_of (W : FVec Ideal S1048576 .f32) (x : FVec Ideal S4x3x262144 .f32) (j : Fin 1048576) (ch : Fin 4) :
    (shapeCast S1048576x4 (transpose S4x262144x4 [0, 2, 1] (mulf (concatenate S4x4x262144 1 [⟨S4x3x262144, x⟩,
      ⟨S4x1x262144, broadcastInDim S4x1x262144 ![] bcast_S_S4x1x262144 (constant S_ .f32 0x3F800000#32)⟩] concatenates_S4x3x262144_S4x1x262144_S4x4x262144_d1)
      (broadcastInDim S4x4x262144 ![0, 1, 2] bcast_S4x1x262144_S4x4x262144_0_1_2 (shapeCast S4x1x262144 W shapeCasts_S1048576_S4x1x262144)))
      transposes_S4x4x262144_S4x262144x4_0_2_1) shapeCasts_S4x262144x4_S1048576x4 : FVec Ideal S1048576x4 .f32) (ix2 j ch)
    = (if h : ch.val < 3 then x (ix3 ⟨j.val / 262144, by omega⟩ ⟨ch.val, h⟩ ⟨j.val % 262144, by omega⟩) else (1 : EReal)) * W (ix1 j) := by
  pointwise

/-- The result at an index, from the sums. -/
theorem placed (T : FVec Ideal S1048576x4 .f32) (b ch : Fin 4) (r c : Fin 512) :
    (transpose S4x4x512x512 [0, 3, 1, 2] (shapeCast S4x512x512x4 T shapeCasts_S1048576x4_S4x512x512x4) transposes_S4x512x512x4_S4x4x512x512_0_3_1_2
      : FVec Ideal S4x4x512x512 .f32) (ix4 b ch r c) = T (ix2 ⟨b.val * 262144 + r.val * 512 + c.val, by omega⟩ ch) := by
  pointwise

/-- Where no depth is `+∞`, a point's index as the sum writes through it, read signed, is a pixel's number exactly if the point is drawn and that pixel is its own. -/
theorem writes_iff (d : FVec Ideal S4x1x512x512 .f32) (hd : ∀ i, d i ≠ ⊤) (p q : Fin 1048576) :
    (wrapped (target d) (ix2 q 0)).toInt = (p.val : Int) ↔ q = p ∧ least ≤ depthOf d q := by
  have hq := toInt_small q.val (by omega)
  rw [wrap_at, target_at d hd]
  by_cases h : least ≤ depthOf d q
  · rw [if_pos h, hq, if_neg (by omega), hq, Fin.ext_iff]
    exact ⟨fun e => ⟨by omega, h⟩, fun e => by rw [e.1]⟩
  · have h0 : (1048576#32).toInt = 1048576 := by decide
    rw [if_neg h, h0, if_neg (by omega), h0]
    exact ⟨fun e => by omega, fun e => (h e.2).elim⟩

/-- Where no depth is `+∞`, the sum at a pixel is what the point of its own number adds if that point is drawn, and 0 otherwise. -/
theorem summed_at (d : FVec Ideal S4x1x512x512 .f32) (hd : ∀ i, d i ≠ ⊤) (x : FVec Ideal S4x3x262144 .f32) (p : Fin 1048576) (ch : Fin 4) :
    summed d x (ix2 p ch) = if least ≤ depthOf d p then values d x (ix2 p ch) else (0 : EReal) := by
  have e : summed d x (ix2 p ch) = if (wrapped (target d) (ix2 p 0)).toInt = (p.val : Int) then values d x (ix2 p ch) else (0 : EReal) :=
    Scatter.scatter_own scatter_S1048576x4_S1048576x1_S1048576x4_1_0_0_1 rfl rfl rfl rfl
    (broadcastInDim S1048576x4 ![] bcast_S_S1048576x4 (constant S_ .f32 0x00000000#32)) (values d x) (wrapped (target d)) p ch (by pointwise)
    fun q hq => ((writes_iff d hd p q).1 hq).1
  refine e.trans ?_
  by_cases h : least ≤ depthOf d p
  · rw [if_pos h, if_pos ((writes_iff d hd p p).2 ⟨rfl, h⟩)]
  · rw [if_neg h, if_neg fun h' => h ((writes_iff d hd p p).1 h').2]

/-- A weighted sum of one term: the weight is 1 if the term is there, 0 if not. -/
theorem one_term (t y : EReal) : (if least ≤ t then y * wt t else 0) = y * wt t := by
  unfold wt
  split
  · rfl
  · rw [mul_zero]

/-- The depth of the point whose number is that of pixel `(r, c)` of batch `b`. -/
theorem depthOf_at (d : FVec Ideal S4x1x512x512 .f32) (b : Fin 4) (r c : Fin 512) :
    depthOf d ⟨b.val * 262144 + r.val * 512 + c.val, by omega⟩ = d (ix4 b 0 r c) := by
  unfold depthOf z
  refine congrArg d (funext fun a => Fin.ext ?_)
  match a with
  | ⟨0, _⟩ => show (b.val * 262144 + r.val * 512 + c.val) / 262144 = b.val; omega
  | ⟨1, _⟩ => rfl
  | ⟨2, _⟩ => show (b.val * 262144 + r.val * 512 + c.val) % 262144 / 512 = r.val; omega
  | ⟨3, _⟩ => show (b.val * 262144 + r.val * 512 + c.val) % 262144 % 512 = c.val; omega

/-- Where no depth is `+∞`, an element of the reference's result is the image's. -/
theorem result_at (d : FVec Ideal S4x1x512x512 .f32) (hd : ∀ i, d i ≠ ⊤) (x : FVec Ideal S4x3x262144 .f32) (b ch : Fin 4) (r c : Fin 512) :
    result d x (ix4 b ch r c) = image d x b ch r c := by
  refine (placed (summed d x) b ch r c).trans ?_
  rw [summed_at d hd]
  have e : values d x (ix2 ⟨b.val * 262144 + r.val * 512 + c.val, by omega⟩ ch) = _ := value_of (weights d) x _ ch
  rw [e, weights_at d hd, one_term, depthOf_at]
  unfold image
  split
  · next h =>
    refine congrArg (· * wt (d (ix4 b 0 r c))) (congrArg x (funext fun a => Fin.ext ?_))
    match a with
    | ⟨0, _⟩ => show (b.val * 262144 + r.val * 512 + c.val) / 262144 = b.val; omega
    | ⟨1, _⟩ => rfl
    | ⟨2, _⟩ => show (b.val * 262144 + r.val * 512 + c.val) % 262144 = r.val * 512 + c.val; omega
  · rw [one_mul]

/-- Where no depth is `+∞`, the reference's result is the image. -/
theorem result_whole (d : FVec Ideal S4x1x512x512 .f32) (hd : ∀ i, d i ≠ ⊤) (x : FVec Ideal S4x3x262144 .f32) : result d x = whole d x := by
  funext y
  have e : y = ix4 (y 0) (y 1) (y 2) (y 3) := by
    funext a
    match a with
    | ⟨0, _⟩ => rfl
    | ⟨1, _⟩ => rfl
    | ⟨2, _⟩ => rfl
    | ⟨3, _⟩ => rfl
  exact (congrArg (result d x) e).trans (result_at d hd x (y 0) (y 1) (y 2) (y 3))

end Cert.RefSum

end
-- ==== Proof.Pre.lean ====
/- The precondition read element by element. -/
module

public import proofs.«01_k».proof.Proof.Consts
public import proofs.«01_k».proof.Proof.Gen.Pre_depth_below_infinity
public import Idealize.ShloMosaic.Lib.ReduceAll

@[expose] public section

noncomputable section

namespace Cert.Pre

open Cert.Pre_depth_below_infinity Cert.Pre_depth_below_infinity.Gen Cert.Consts Idealize.ShloMosaic

/-- Where the precondition is all ones, no depth is `+∞`. -/
theorem finite_above (d : FVec Ideal S4x1x512x512 .f32) (x : FVec Ideal S4x3x262144 .f32)
    (h : Cert.Pre_depth_below_infinity.fn (F := Ideal) d x = fun _ => 1#1) (i : S4x1x512x512.Idx) : d i ≠ ⊤ := by
  haveI : Subsingleton S_.Idx := ⟨fun a b => funext fun k => k.elim0⟩
  have e := Host.reduce_andi_all _ _ _ _ _ (congrFun h (fun k => k.elim0)) i
  change BitVec.ofBool (decide (d i < Ideal.ofBits .f32 0x7F800000#32)) = 1#1 at e
  rw [wInf] at e
  intro ht
  rw [ht, decide_eq_false (lt_irrefl _)] at e
  exact absurd e (by decide)

end Cert.Pre

end
-- ==== Proof.Claims.lean ====
/- The claims, one by one. -/
module

public import proofs.«01_k».proof.Defs
public import proofs.«01_k».proof.Proof.Array
public import proofs.«01_k».proof.Proof.RefRun
public import proofs.«01_k».proof.Proof.RefSum
public import proofs.«01_k».proof.Proof.Pre
public import proofs.«01_k».proof.Proof.Gen.Kernel.Frame
public import Idealize.ShloMosaic.Lib.Quiescent

@[expose] public section

noncomputable section

namespace Cert.Claims

open Idealize.ShloMosaic Idealize.SL.Sem Cert.Consts

/-- The reference terminates, leaves its arguments as they were and every semaphore counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.RefRun.run m ρ)

/-- From memories that agree on the arguments, no depth being `+∞`, the kernel and the reference both end with the image
    `whole` of the depths and the data. -/
theorem algebraic : Cert.algebraic_KernelIdeal_ReferenceIdeal_pre_depth_below_infinity := by
  intro m ρ m' ρ' hpre hagree
  refine ⟨fun c => whole (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono (fun r h c => ⟨(h c).1.trans (Cert.Array.final m c), (h c).2⟩)
      (Cert.KernelIdeal.Value.run_blocks m ρ)
  · refine (θ_run Cert.ReferenceIdeal.defs _ _).mono (fun r h c => ⟨(h c).1.trans ?_, (h c).2⟩) (Cert.RefRun.run m' ρ')
    rw [(hagree c).1, (hagree c).2]
    exact Cert.RefSum.result_whole _ (Cert.Pre.finite_above _ _ (hpre c)) _

end Cert.Claims

end
-- ==== Proof.lean ====
/- The certificate: the side conditions of the four programs, the three frames (those of the kernel generated, the
   reference's from its run), the idealization without rewrites, and the equation of the two results. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_depth_below_infinity
public import proofs.«01_k».proof.Proof.Claims

@[expose] public section

noncomputable section

namespace Cert.Proof

open Idealize.ShloMosaic Idealize.SL.Sem

/-- Everything that is claimed of the kernel and the reference. -/
theorem claim : Cert.Claim := ⟨Cert.Kernel.Gen.facts, Cert.KernelIdeal.Gen.facts, Cert.ReferenceIdeal.Gen.facts,
  Cert.Pre_depth_below_infinity.Gen.facts,
  fun m ρ _ => Cert.Kernel.Gen.frame m ρ, fun m ρ _ => Cert.KernelIdeal.Gen.frame m ρ, fun m ρ _ => Cert.KernelIdeal.Gen.frame m ρ,
  Cert.Claims.frame_reference, fun m ρ _ => Cert.Claims.frame_reference m ρ trivial, trivial, Cert.Claims.algebraic⟩

end Cert.Proof

end
